-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024x32 : Shape := ⟨3, ![64, 1024, 32]⟩
abbrev S_ : Shape := ⟨0, ![]⟩
abbrev S1024x32 : Shape := ⟨2, ![1024, 32]⟩
abbrev S1024 : Shape := ⟨1, ![1024]⟩
abbrev S64x32x1024 : Shape := ⟨3, ![64, 32, 1024]⟩
abbrev S1x64x1024 : Shape := ⟨3, ![1, 64, 1024]⟩
abbrev S1x32x1024 : Shape := ⟨3, ![1, 32, 1024]⟩
abbrev S1x1024 : Shape := ⟨2, ![1, 1024]⟩
abbrev S32x1024 : Shape := ⟨2, ![32, 1024]⟩
abbrev S1024x1 : Shape := ⟨2, ![1024, 1]⟩
abbrev S1024x1024 : Shape := ⟨2, ![1024, 1024]⟩
abbrev S1x1x1024 : Shape := ⟨3, ![1, 1, 1024]⟩
abbrev S1x1024x32 : Shape := ⟨3, ![1, 1024, 32]⟩

abbrev nBuf : Space → Nat
  | .hbm => 11
  | .vmem => 9
  | .smem => 0
  | _ => 0

abbrev bufTy : (tb : Table) → Fin (tcTables nBuf tb) → BufTy
  | .hbm, ⟨0, _⟩ => ⟨S64x1024x32, .f32⟩
  | .hbm, ⟨1, _⟩ => ⟨S_, .i32⟩
  | .hbm, ⟨2, _⟩ => ⟨S1024x32, .f32⟩
  | .hbm, ⟨3, _⟩ => ⟨S1024, .f32⟩
  | .hbm, ⟨4, _⟩ => ⟨S64x32x1024, .f32⟩
  | .hbm, ⟨5, _⟩ => ⟨S64x32x1024, .f32⟩
  | .hbm, ⟨6, _⟩ => ⟨S64x32x1024, .f32⟩
  | .hbm, ⟨7, _⟩ => ⟨S1x64x1024, .i32⟩
  | .hbm, ⟨8, _⟩ => ⟨S64x1024x32, .f32⟩
  | .hbm, ⟨9, _⟩ => ⟨S64x1024x32, .f32⟩
  | .hbm, ⟨10, _⟩ => ⟨S1x1024x32, .f32⟩
  | .local _ .vmem, ⟨0, _⟩ => ⟨S1x32x1024, .f32⟩
  | .local _ .vmem, ⟨1, _⟩ => ⟨S1x32x1024, .f32⟩
  | .local _ .vmem, ⟨2, _⟩ => ⟨S1024x32, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x64x1024, .i32⟩
  | .local _ .vmem, ⟨8, _⟩ => ⟨S1x1024, .f32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let c0_12 : Index := 0#32
  let arg0 : BitVec 32 := BitVec.ofNat 32 (i 0).val
  let v28 : Index := Scalar.indexCast arg0
  let c0_13 : Index := 0#32
  ![0, v28.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S64x1024x32 : Shape := ⟨3, ![64, 1024, 32]⟩
abbrev S_ : Shape := ⟨0, ![]⟩
abbrev S1024x32 : Shape := ⟨2, ![1024, 32]⟩
abbrev S1024 : Shape := ⟨1, ![1024]⟩
abbrev S65536x32 : Shape := ⟨2, ![65536, 32]⟩
abbrev S65536 : Shape := ⟨1, ![65536]⟩
abbrev S65536x1 : Shape := ⟨2, ![65536, 1]⟩
abbrev S32x1024 : Shape := ⟨2, ![32, 1024]⟩
abbrev S65536x1024 : Shape := ⟨2, ![65536, 1024]⟩
abbrev S1x1024 : Shape := ⟨2, ![1, 1024]⟩
abbrev S64x1024 : Shape := ⟨2, ![64, 1024]⟩
abbrev S1x64x1024 : Shape := ⟨3, ![1, 64, 1024]⟩
abbrev S1x1024x32 : Shape := ⟨3, ![1, 1024, 32]⟩

abbrev nBuf : Space → Nat
  | .hbm => 50
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S_, .i32⟩
  | .hbm, ⟨2, _⟩ => ⟨S1024x32, .f32⟩
  | .hbm, ⟨3, _⟩ => ⟨S1024, .f32⟩
  | .hbm, ⟨4, _⟩ => ⟨S65536x32, .f32⟩
  | .hbm, ⟨5, _⟩ => ⟨S65536x32, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S32x1024, .f32⟩
  | .hbm, ⟨10, _⟩ => ⟨S65536x1024, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S32x1024, .f32⟩
  | .hbm, ⟨17, _⟩ => ⟨S32x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x1024, .i32⟩
  | .hbm, ⟨24, _⟩ => ⟨S_, .f32⟩
  | .hbm, ⟨25, _⟩ => ⟨S_, .i32⟩
  | .hbm, ⟨26, _⟩ => ⟨S65536, .f32⟩
  | .hbm, ⟨27, _⟩ => ⟨S65536, .i32⟩
  | .hbm, ⟨28, _⟩ => ⟨S65536x1, .i32⟩
  | .hbm, ⟨29, _⟩ => ⟨S1x1024, .i32⟩
  | .hbm, ⟨30, _⟩ => ⟨S65536x1024, .i32⟩
  | .hbm, ⟨31, _⟩ => ⟨S65536x1024, .i32⟩
  | .hbm, ⟨32, _⟩ => ⟨S65536x1024, .i1⟩
  | .hbm, ⟨33, _⟩ => ⟨S65536x1024, .f32⟩
  | .hbm, ⟨34, _⟩ => ⟨S65536x32, .f32⟩
  | .hbm, ⟨35, _⟩ => ⟨S65536x32, .f32⟩
  | .hbm, ⟨36, _⟩ => ⟨S65536x32, .f32⟩
  | .hbm, ⟨37, _⟩ => ⟨S65536x32, .f32⟩
  | .hbm, ⟨38, _⟩ => ⟨S65536x32, .f32⟩
  | .hbm, ⟨39, _⟩ => ⟨S_, .f32⟩
  | .hbm, ⟨40, _⟩ => ⟨S65536x32, .f32⟩
  | .hbm, ⟨41, _⟩ => ⟨S65536x32, .f32⟩
  | .hbm, ⟨42, _⟩ => ⟨S65536x32, .f32⟩
  | .hbm, ⟨43, _⟩ => ⟨S64x1024x32, .f32⟩
  | .hbm, ⟨44, _⟩ => ⟨S64x1024x32, .f32⟩
  | .hbm, ⟨45, _⟩ => ⟨S64x1024, .i32⟩
  | .hbm, ⟨46, _⟩ => ⟨S1x64x1024, .i32⟩
  | .hbm, ⟨47, _⟩ => ⟨S64x1024x32, .f32⟩
  | .hbm, ⟨48, _⟩ => ⟨S64x1024x32, .f32⟩
  | .hbm, ⟨49, _⟩ => ⟨S1x1024x32, .f32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v16 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.Body.lean ====
/-
  What one block of the kernel computes: the body's triple at any grid point, in its two cases (the first point, which fills the
  scratch row with the codes' sums of squares, and every later point, which reads it). The vectors' block and the codebook are left in
  place; the two block outputs are left at the named payloads; the index array is left as it was but for the point's own row.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.Value
public import Idealize.ShloMosaic.Lib.WholeRead
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-point condition of the body, on its coordinates. -/
abbrev atFirst (i : grid0.Coords) : Prop :=
  (Scalar.cmpi .ne (Scalar.extui (Scalar.cmpi .eq (BitVec.ofNat 32 (i 0).val) 0#32)) 0#32) = 1#1

/-- It holds at the first point only. -/
theorem atFirst_iff : ∀ t : Fin cfg0.N, atFirst (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    rw [show t.val = 0 ↔ t.val % 64 = 0 by omega]
    simp only [atFirst, e0]
    word_cmp
   : ∀ t : Fin grid0.N, atFirst (grid0.coords t) ↔ t.val = 0)

/-- The block of vectors plus its differences, of a block of vectors, the codebook and the codes' sums of squares. -/
def outX (x0 : Vec F S1x32x1024 .f32) (x1 : Vec F S1024x32 .f32) (s : Vec F S1x1024 .f32) : Vec F S1x32x1024 .f32 :=
  k0_pay2 (k0_pay3 x0) (k0_pay8 x0 x1 s)
/-- The block of losses. -/
def outL (x0 : Vec F S1x32x1024 .f32) (x1 : Vec F S1024x32 .f32) (s : Vec F S1x1024 .f32) : Vec F S1x32x1024 .f32 :=
  k0_pay1 (k0_pay8 x0 x1 s)

theorem hz2 : (![0, 0] : Fin 2 → ℕ) = fun _ => 0 := by funext a; fin_cases a <;> rfl
theorem hz3 : (![0, 0, 0] : Fin 3 → ℕ) = fun _ => 0 := by funext a; fin_cases a <;> rfl

/-- A load of the whole of a whole memref reads its contents. -/
theorem ld_whole {Val : EltTy → Type} {κ : Kind} {sp : Space} {S : Shape} {e : EltTy} {m : Memref sig κ sp S e} (h : m.IsWhole) (X : S.Idx → Val e)
    {off : Fin S.rank → ℕ} (hz : off = fun _ => 0) (inb : ∀ a, off a + S.size a ≤ S.size a) :
    View.readAt Val m.view (Rect.unit off S.size inb).toLoadRect (h.unread X) = X := by
  subst hz
  funext x
  rw [h.readAt_unread]
  exact congrArg X (Rect.emb_whole_apply (s := S) x)

/-- The index array `y'` is `y` with the row of the point at `i` replaced by the indices `k` of the point's block. -/
def RowAt (i : grid0.Coords) (k : Vec F S1x1x1024 .i32) (y y' : Vec F S1x64x1024 .i32) : Prop :=
  (∀ j : S1x64x1024.Idx, ∀ x : S1x1x1024.Idx, (j 1).val = (i 0).val → (x 2).val = (j 2).val → y' j = k x)
    ∧ ∀ j : S1x64x1024.Idx, (j 1).val ≠ (i 0).val → y' j = y j

/-- The store of the point's row leaves the array so. -/
theorem rowAt_writes (i : grid0.Coords) (k : Vec F S1x1x1024 .i32) (y : Vec F S1x64x1024 .i32) {m : Memref sig .tc .vmem S1x64x1024 .i32} (h : m.IsWhole) :
    RowAt i k y (View.read (Elt F) m.view (m.view.writes (Elt F) (h.unread y)
      [⟨Rect.unit (s := S1x64x1024) (k0_off1 i) S1x1x1024.size (k0_off1_inb i), k⟩])) := by
  refine ⟨fun j x hj hx => ?_, fun j hj => ?_⟩
  · refine View.read_writes_cons_unit_of_mem _ _ _ _ _ _ _ (k0_off1_eq i) fun a => ?_
    have h1 : (x 1).val < 1 := (x 1).isLt
    have h0 : (x 0).val < 1 := (x 0).isLt
    have hj0 : (j 0).val < 1 := (j 0).isLt
    match a with
    | ⟨0, _⟩ => show (j 0).val = 0 + (x 0).val; omega
    | ⟨1, _⟩ => show (j 1).val = (i 0).val + (x 1).val; omega
    | ⟨2, _⟩ => show (j 2).val = 0 + (x 2).val; omega
  · rw [View.read_writes_cons_unit_of_not_mem _ _ _ _ _ _ (k0_off1_eq i) 1 (by
      show (j 1).val < (i 0).val ∨ (i 0).val + 1 ≤ (j 1).val
      omega), View.writes_nil, h.read_unread]

set_option maxHeartbeats 1000000 in
/-- The body at a point after the first: the scratch row holds `s` and keeps it. -/
theorem run_later (c : Dev nD) (i : grid0.Coords) (arg1 : Memref sig .tc .vmem S1x32x1024 .f32) (harg1 : arg1.IsWhole) (arg2 : Memref sig .tc .vmem S1024x32 .f32) (harg2 : arg2.IsWhole) (arg3 : Memref sig .tc .vmem S1x32x1024 .f32) (harg3 : arg3.IsWhole) (arg4 : Memref sig .tc .vmem S1x32x1024 .f32) (harg4 : arg4.IsWhole) (arg5 : Memref sig .tc .vmem S1x64x1024 .i32) (harg5 : arg5.IsWhole) (arg6 : Memref sig .tc .vmem S1x1024 .f32) (harg6 : arg6.IsWhole)
    (hc0 : ¬ atFirst i) (x0 : Vec F S1x32x1024 .f32) (x1 : Vec F S1024x32 .f32) (y : Vec F S1x64x1024 .i32) (s : Vec F S1x1024 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare y ∗ owns (c : Thread nD τ) arg6 fullShare s
            ∗ (iprop(owns (c : Thread nD τ) arg1 fullShare x0 ∗ owns (c : Thread nD τ) arg2 fullShare x1 ∗ owns (c : Thread nD τ) arg3 fullShare (outX x0 x1 s) ∗ owns (c : Thread nD τ) arg4 fullShare (outL x0 x1 s) ∗ (∃ y', ⌜RowAt i (k0_pay7 x0 x1 s) y y'⌝ ∗ owns (c : Thread nD τ) arg5 fullShare y') ∗ owns (c : Thread nD τ) arg6 fullShare s) -∗ K ⟨⟩))
          ⊢ wp frame (wpE (defs₀ (F := F)) Variants.none c none) E (cc0__vq_block i arg1 harg1 arg2 harg2 arg3 harg3 arg4 harg4 arg5 harg5 arg6 harg6) K := by
    intro E K
    simp only [cc0__vq_block_eq_skeleton]; unfold cc0__vq_block_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg5.eq_unread hf4; obtain rfl := harg6.eq_unread hfs0
    have e0 := ld_whole harg1 x0 hz3 inb_S1x32x1024_S1x32x1024_0_0_0
    have e1 := ld_whole harg2 x1 hz2 inb_S1024x32_S1024x32_0_0
    have e6 := ld_whole harg6 s hz2 inb_S1x1024_S1x1024_0_0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      refine (View.read_writes_full ..).trans ?_
      rfl
    isplitl [H3]
    · iexists _; isplitr; swap; · iexact H3
      ipureintro
      refine (View.read_writes_full ..).trans ?_
      rfl
    isplitl [H4]
    · iexists _; isplitr; swap
      · iexists _; isplitr; swap; · iexact H4
        ipureintro; rfl
      ipureintro
      exact rowAt_writes i _ y harg5
    iexists _; isplitr; swap; · iexact HS0
    ipureintro; exact harg6.read_unread _

set_option maxHeartbeats 1000000 in
/-- The body at the first point: it fills the scratch row with the codes' sums of squares and reads it back. -/
theorem run_first (c : Dev nD) (i : grid0.Coords) (arg1 : Memref sig .tc .vmem S1x32x1024 .f32) (harg1 : arg1.IsWhole) (arg2 : Memref sig .tc .vmem S1024x32 .f32) (harg2 : arg2.IsWhole) (arg3 : Memref sig .tc .vmem S1x32x1024 .f32) (harg3 : arg3.IsWhole) (arg4 : Memref sig .tc .vmem S1x32x1024 .f32) (harg4 : arg4.IsWhole) (arg5 : Memref sig .tc .vmem S1x64x1024 .i32) (harg5 : arg5.IsWhole) (arg6 : Memref sig .tc .vmem S1x1024 .f32) (harg6 : arg6.IsWhole)
    (hc0 : atFirst i) (x0 : Vec F S1x32x1024 .f32) (x1 : Vec F S1024x32 .f32) (y : Vec F S1x64x1024 .i32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare y ∗ (∃ d, owns (c : Thread nD τ) arg6 fullShare d)
            ∗ (iprop(owns (c : Thread nD τ) arg1 fullShare x0 ∗ owns (c : Thread nD τ) arg2 fullShare x1 ∗ owns (c : Thread nD τ) arg3 fullShare (outX x0 x1 (k0_pay4 x1)) ∗ owns (c : Thread nD τ) arg4 fullShare (outL x0 x1 (k0_pay4 x1)) ∗ (∃ y', ⌜RowAt i (k0_pay7 x0 x1 (k0_pay4 x1)) y y'⌝ ∗ owns (c : Thread nD τ) arg5 fullShare y') ∗ owns (c : Thread nD τ) arg6 fullShare (k0_pay4 x1)) -∗ K ⟨⟩))
          ⊢ wp frame (wpE (defs₀ (F := F)) Variants.none c none) E (cc0__vq_block i arg1 harg1 arg2 harg2 arg3 harg3 arg4 harg4 arg5 harg5 arg6 harg6) K := by
    intro E K
    simp only [cc0__vq_block_eq_skeleton]; unfold cc0__vq_block_skel
    simp only [k0_part1_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg5.eq_unread hf4
    have e0 := ld_whole harg1 x0 hz3 inb_S1x32x1024_S1x32x1024_0_0_0
    have e1 := ld_whole harg2 x1 hz2 inb_S1024x32_S1024x32_0_0
    sl_exec (disch := first | sl_exact hc0)
    sl_step
    iapply Hk
    have e6 : run_first.sl.v15 c arg6 x1 = k0_pay4 x1 := by
      unfold run_first.sl.v15
      exact View.readCov_unit_zero _ hz2 _ _
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      refine (View.read_writes_full ..).trans ?_
      unfold outX
      rw [← e6]
      rfl
    isplitl [H3]
    · iexists _; isplitr; swap; · iexact H3
      ipureintro
      refine (View.read_writes_full ..).trans ?_
      unfold outL
      rw [← e6]
      rfl
    isplitl [H4]
    · iexists _; isplitr; swap
      · iexists _; isplitr; swap; · iexact H4
        ipureintro; rfl
      ipureintro
      rw [← e6]
      exact rowAt_writes i _ y harg5
    iexists _; isplitr; swap; · iexact HS0
    ipureintro; exact View.read_writes_full ..

end Cert.Proof.K

end
-- ==== Proof.Launch.lean ====
/-
  The launch of the ideal kernel program, for relational proof data: the run of @main from any memory, its windowed arrays
  ending at contents the data allow, and every other buffer at what the lines after the region make of such contents.
-/
module

public import proofs.«01_k».proof.Proof.Gen.KernelIdeal.Launch
public import proofs.«01_k».proof.Proof.Gen.KernelIdeal.Frame
public import Idealize.ShloMosaic.Lib.Pipeline.FrameSuffix

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch concludes of core `c`: some contents `A` that the data allow the windowed arrays at the end, with every buffer that
    bypasses the region at what the later lines compute from `A`. -/
def TailAt (rd : (c : Dev nD) → RDat τ (Elt F) Unit ℕ (UR sig nD τ) ℕ cfg0 c) (c : Dev nD) (s : MemSt nD τ sig (Elt F)) : Prop :=
  ∃ A : (w : Fin 5) → Buf (Elt F) ((spec0 w).arr.view.loc (c.tc : Thread nD τ)),
    (∀ w, (rd c).ArrAt w cfg0.N (A w))
      ∧ ∀ b ∈ restRefsP sig Prefetch.none spec0,
          s.mem ((c.tc : Thread nD τ).loc b) = StableHlo.after (hostOps1 (F := F)) (withArrays spec0 c (V0 m c) A) (Proc.devRef .tc b)

set_option backward.isDefEq.respectTransparency.types false in
set_option maxHeartbeats 1600000 in
/-- The launch: with the body's obligation met by the data `rd`, every execution of @main terminates, with each windowed array at contents the
    data allow, every other buffer as `TailAt` says, and every semaphore counter at zero. -/
theorem launch (rd : (c : Dev nD) → RDat τ (Elt F) Unit ℕ (UR sig nD τ) ℕ cfg0 c)
    (hbody : ∀ c, (rd c).BodyObligation (defs₀ (F := F)) Variants.none () Set.univ)
    (hshare : ∀ c w, (rd c).share w = fullShare) (howed : ∀ c t, (rd c).owed t = 0)
    (hA : ∀ c w, (rd c).A w = V m c (arrRef spec0 w))
    (hin : ∀ c, ΦA spec0 c ⊢ (rd c).Φ 0) (hout : ∀ c, (rd c).Φ (Fin.last cfg0.N) ⊢ ΦA spec0 c) :
    θ_run defs (onTc (τ := τ) (main (F := F))) (s₀ m ρ) fun r =>
      (∀ c, (∀ w, (rd c).ArrAt w cfg0.N (r.2.mem ((spec0 w).arr.view.loc (c.tc : Thread nD τ)))) ∧ TailAt m rd c r.2)
        ∧ r.2.sem = fun _ => 0 := by
  classical
  let pcs : Fin 1 → PCfg sig Λ₀ (Elt F) := fun q => (cfgs q).toPCfg (Val := Elt F)
  let a : (q : Fin 1) → (pcs q).Adm := fun q => (cfgs q).toPCfg_adm
  have kit₀ : PLaunchFacts₀ (nD := nD) (τ := τ) pcs 0 := launch0.toP.to₀
  have hq : ∀ c w, (spec0 w).isOut = false → (rd c).q w = shareOf spec0 w := fun c w hw =>
    (rd c).q_eq_shareOf_of_share_full launch0.win.arr_inj (hshare c) w hw
  -- the arrays at the region's exit, opened into contents the data allow, and closed again
  have open' : ∀ c, ((RDat.familyOf pcs a 0 rd 0 c).arraysAt cfg0.N : sProp 𝕄)
      ⊢ iprop(∃ A, ⌜∀ w, (rd c).ArrAt w cfg0.N (A w)⌝ ∗ (rd c).arrays A) := fun c => by
    rw [RDat.familyOf_self]; unfold RDat.arraysAt
    iintro Ha
    ihave Hp := (BI.bigSep_exists_pi Finset.univ (fun w X => iprop(⌜(rd c).ArrAt w cfg0.N X⌝
        ∗ (cfg0.win w).arr.view.loc (c.tc : Thread nD τ) ↦[(cfg0.win w).arr.view.set]{(rd c).share w} X))) $$ Ha
    icases Hp with ⟨%A, Hp⟩
    ihave Hs := (BI.bigSep_pure_sep Finset.univ (fun w => (rd c).ArrAt w cfg0.N (A w))
        (fun w => (cfg0.win w).arr.view.loc (c.tc : Thread nD τ) ↦[(cfg0.win w).arr.view.set]{(rd c).share w} A w)) $$ Hp
    icases Hs with ⟨%hAll, Hs⟩
    iexists A; isplitr; · ipureintro; exact fun w => hAll w (Finset.mem_univ w)
    unfold RDat.arrays
    iexact Hs
  have close' : ∀ c A, (∀ w, (rd c).ArrAt w cfg0.N (A w)) →
      ((rd c).arrays A : sProp 𝕄) ⊢ (RDat.familyOf pcs a 0 rd 0 c).arraysAt cfg0.N := fun c A hAll => by
    rw [RDat.familyOf_self]; unfold RDat.arraysAt RDat.arrays
    refine BI.bigSep_mono fun w _ => ?_
    show ((cfg0.win w).arr.view.loc (c.tc : Thread nD τ) ↦[(cfg0.win w).arr.view.set]{(rd c).share w} A w : sProp 𝕄)
      ⊢ iprop(∃ X, ⌜(rd c).ArrAt w cfg0.N X⌝ ∗ (cfg0.win w).arr.view.loc (c.tc : Thread nD τ) ↦[(cfg0.win w).arr.view.set]{(rd c).share w} X)
    iintro H; iexists (A w); isplitr; · ipureintro; exact hAll w
    iexact H
  refine RDat.θ_run_region_pf_tail_quiescent pcs a (RDat.familyOf pcs a 0 rd) () (kit₀.cellOf_inj a) 0 kit₀.win (OwnSemFacts.none spec0) kit₀.pre emb₁ defs₀
    Variants.none m ρ main (fun _ => chain ([hostOps1 (F := F)].map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs a) (kit₀.cellOf_inj a)) (launchToks (pin pcs a) (kit₀.cellOf_inj a)))
    (hu₀ := ?hu) (V := V m) (hmain := hmain m Variants.none)
    (hsplit := fun c => by rw [RDat.familyOf_self]; exact (rd c).arrays_split_shared kit₀.sharedIn kit₀.arr_whole (hq c) (V m c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => iprop(∃ A, ⌜∀ w, (rd c).ArrAt w cfg0.N (A w)⌝
      ∗ unscopedRestP (Ix := Unit) (Name := ℕ) (U := UR sig nD τ) (Lvl := ℕ) Prefetch.none spec0 c
          (fun b => StableHlo.after (hostOps1 (F := F)) (withArrays spec0 c (V0 m c) A) (Proc.devRef .tc b))))
    (hX := ?hX) (hin := ?hI) (hout := ?hO) (htail := ?hT) (QY := TailAt m rd) (hY := ?hY) (hQ := ?hQ)
  case hu =>
    iintro Hu; imodintro
    isplitl [Hu]; · iapply (show (ownU _ : sProp 𝕄) ⊢ BI.own (emb₁ (initOf (cells (pin pcs a) (kit₀.cellOf_inj a)) (launchToks (pin pcs a) (kit₀.cellOf_inj a)))) from .rfl); iexact Hu
    iapply (show (BI.emp : sProp 𝕄) ⊢ bigSep Finset.univ (fun _ : Dev nD => (BI.emp : sProp 𝕄)) from by rw [BI.bigSep_emp_const])
    iempintro
  case hX =>
    intro c
    iintro ⟨HU, -, -, Hp, -⟩; imodintro
    isplitl [Hp]; · iexists _; iexact Hp
    iexact HU
  case hI =>
    intro c
    rw [RDat.familyOf_self]
    refine (show _ ⊢ ΦA spec0 c from ?_).trans (hin c)
    unfold ΦA; iintro ⟨Hp, -, Hr⟩
    isplitl [Hr] <;> iassumption
  case hO =>
    intro c
    rw [RDat.familyOf_self]
    refine (hout c).trans ?_
    rw [ownSems0_none]; unfold ΦA
    iintro ⟨Hr, Hp⟩
    isplitl [Hp]; · iexact Hp
    isplitr; · iempintro
    iexact Hr
  case hT =>
    intro c Q
    iintro ⟨Hk, Hb, Ha, HZ⟩
    ihave Hx := (open' c) $$ Ha
    icases Hx with ⟨%A, %hAll, Hx⟩
    have hB : (rd c).arrays A = arrBufs spec0 c (fun b => withArrays spec0 c (V0 m c) A (Proc.devRef .tc b)) :=
      ((rd c).arrBufs_eq_arrays kit₀.sharedIn kit₀.arr_whole (hq c) _ A fun w =>
        (withArrays_arr_shared spec0 c (V0 m c) A ((rd c).ArrAt_sharedIn kit₀.sharedIn (V0 m c) (hA c) cfg0.N A hAll) w).symm).symm
    iapply (tail_seqs_bufs_b pcs defs₀ Variants.none Prefetch.none spec0 c (V0 m c) A [hostOps1 (F := F)] sfx_sub sfx_fresh sfx_keeps Q)
    isplitl [Hk]
    · iintro ⟨Hb2, Ha2, Hu⟩
      iapply Hk
      isplitl [Hb2]; · iexact Hb2
      isplitl [Ha2]; · iapply (close' c A hAll); iapply (Entails.of_eq hB.symm); iexact Ha2
      iexists A; isplitr
      · ipureintro; exact hAll
      · iexact Hu
    · isplitl [Hb]; · iexact Hb
      isplitl [Hx]; · iapply (Entails.of_eq hB); iexact Hx
      iexact HZ
  case hY =>
    intro c s'
    iintro ⟨-, HZ, HSI⟩
    icases HZ with ⟨%A, %hAll, HZ⟩
    unfold unscopedRestP
    ihave Hr := (pointsTo_read_all (restRefsP sig Prefetch.none spec0) (fun b => (c.tc : Thread nD τ).loc b)
      (fun b => StableHlo.after (hostOps1 (F := F)) (withArrays spec0 c (V0 m c) A) (Proc.devRef .tc b)) s') $$ [HZ HSI]
    · isplitl [HZ] <;> iassumption
    icases Hr with ⟨%hR, HSI⟩
    imodintro
    isplitr
    · ipureintro; exact ⟨A, hAll, hR⟩
    · iexact HSI
  case hQ =>
    exact fun s h hz => ⟨fun c => ⟨fun w => by simpa only [RDat.familyOf_self] using (h c).1 w, (h c).2.2⟩, hz⟩

end Cert.Proof.K
-- ==== Proof.Run.lean ====
/-
  The proof data of the ideal kernel program and its run: after the body at point `t` each input buffer holds its block, the two block
  outputs hold the named payloads of the point's block, the scratch row holds the codes' sums of squares, and the index array's buffer
  holds, in every row up to `t`, the indices found for that row's block.
-/
module

public import proofs.«01_k».proof.Proof.Body
public import proofs.«01_k».proof.Proof.Launch
public import Idealize.ShloMosaic.Lib.Pipeline.DatRel

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of vectors at point `t`, channels by positions. -/
abbrev vecs (c : Dev nD) (t : Fin cfg0.N) : Vec F S1x32x1024 .f32 := iblk m c 0 t

/-- The codebook, as the region finds it. -/
abbrev book (c : Dev nD) : Vec F S1024x32 .f32 := V m c main_arg2

/-- The codes' sums of squares, as the first point leaves them in the scratch row. -/
abbrev norms (c : Dev nD) : Vec F S1x1024 .f32 := k0_pay4 (book m c)

/-- The codebook's window is the whole codebook at every point. -/
theorem iblk_book (c : Dev nD) (t : Fin cfg0.N) : iblk m c 1 t = book m c := by
  funext j
  show V m c main_arg2 (((cfg0.win 1).rect t).emb j) = V m c main_arg2 j
  refine congrArg _ (Shape.idx_ext₂ ?_ ?_)
  · exact Pipeline.Window.rect_emb_val_of_index_zero (cfg0.win 1) t 0 rfl j
  · exact Pipeline.Window.rect_emb_val_of_index_zero (cfg0.win 1) t 1 rfl j

/-- The index array's window is the one whose contents are named by a relation. -/
def named : Fin 5 → Bool := fun w => w.val == 4

/-- What the index array's buffer holds after point `t`: in every row up to `t`, the indices found for that row's block of vectors. -/
def RowsUpTo (c : Dev nD) (t : Fin cfg0.N) (y : Vec F S1x64x1024 .i32) : Prop :=
  ∀ t' : Fin cfg0.N, t'.val ≤ t.val → ∀ (j : S1x64x1024.Idx) (x : S1x1x1024.Idx), (j 1).val = t'.val → (x 2).val = (j 2).val →
    y j = k0_pay7 (vecs m c t') (book m c) (norms m c) x

/-- The relation of each window that is named so. -/
def Rl (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, _ => True
  | ⟨3, _⟩, _ => True
  | ⟨4, _⟩, X => RowsUpTo m c t X

/-- The region's invariant: before the first point the scratch row at some contents, afterwards at the codes' sums of squares; and the
    generator's register. -/
def inv (c : Dev nD) (p : Fin (cfg0.N + 1)) : sProp 𝕄 :=
  if p.val = 0 then Pipeline.ΦA spec0 c
  else iprop(owns (c : Thread nD τ) (Memref.whole cc0_scratch0) fullShare (norms m c) ∗ (∃ r, prngReg c r))

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outX (vecs m c t) (book m c) (norms m c)
    | ⟨3, _⟩ => outL (vecs m c t) (book m c) (norms m c)
    | ⟨4, h⟩ => Pipeline.Dat.unnamed (cfg := cfg0) ⟨4, h⟩ t
  Φ p := inv m c p
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outX (vecs m c t) (book m c) (norms m c) := by dsimp only [dats]
theorem after0_3 (c : Dev nD) (t : Fin cfg0.N) : (dats m 0 c).after 3 t = outL (vecs m c t) (book m c) (norms m c) := by dsimp only [dats]
theorem inv_eq (c : Dev nD) (p : Fin (cfg0.N + 1)) : (dats m 0 c).Φ p = inv m c p := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The data with the index array's window read through its relation. -/
abbrev rd (c : Dev nD) : Pipeline.RDat τ (Elt F) Unit ℕ (UR sig nD τ) ℕ cfg0 c := (dats m 0 c).toRRel named (Rl m c)

/-- The class invariant, spelt out: the scratch row and the generator's register at some contents. -/
theorem phiA_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

/-- What a later point finds in the index array's buffer: every row up to the point before is in place. -/
theorem finds_rows (c : Dev nD) (t : Fin cfg0.N) (ht : t.val ≠ 0) (Y : Vec F S1x64x1024 .i32) (h : (rd m c).Finds 4 t Y) :
    RowsUpTo m c ⟨t.val - 1, Nat.lt_of_le_of_lt (Nat.sub_le _ _) t.isLt⟩ Y := by
  have hN : t.val < 64 := lt_of_lt_of_eq t.isLt (show cfg0.N = 64 from N_0)
  rcases ((rd m c).finds_of_pos (w := 4) (t := t) rfl ht Y).mp h with hf | hl
  · have := (flush0_4 _).mp hf
    dsimp only at this; omega
  · exact (dats m 0 c).toRRel_leaves (fgt := named) (Rl := Rl m c) (w := 4) rfl hl

/-- A row stored at point `t` over an array good up to the point before is good up to `t`. -/
theorem rows_step (c : Dev nD) (t : Fin cfg0.N) (y y' : Vec F S1x64x1024 .i32)
    (hy : ∀ t' : Fin cfg0.N, t'.val < t.val → RowsUpTo m c t' y)
    (h : RowAt (grid0.coords t) (k0_pay7 (vecs m c t) (book m c) (norms m c)) y y') : RowsUpTo m c t y' := by
  have hN : t.val < 64 := lt_of_lt_of_eq t.isLt (show cfg0.N = 64 from N_0)
  have e0 : (grid0.coords t 0).val = t.val := by
    have : (grid0.coords t 0).val = t.val / 1 % 64 := Pipeline.Grid.coords_val t 0 (by decide) rfl
    omega
  intro t' ht' j x hj hx
  rcases Nat.lt_or_ge t'.val t.val with hlt | hge
  · rw [h.2 j (by omega)]; exact hy t' hlt t' le_rfl j x hj hx
  · obtain rfl : t' = t := Fin.ext (by omega)
    exact h.1 j x (by omega) hx

/-- What the body is called with at point `t`, window by window, -/
def bodyPre (c : Dev nD) (t : Fin cfg0.N) : sProp 𝕄 :=
  iprop(inv m c t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rd m c).Finds 4 t Y⌝ ∗ owns (c : Thread nD τ) (st0_4 t) fullShare Y))

/-- and what it returns. -/
def bodyPost (c : Dev nD) (t : Fin cfg0.N) : sProp 𝕄 :=
  iprop(inv m c t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rl m c 4 t X⌝ ∗ owns (c : Thread nD τ) (st0_4 t) fullShare X))

set_option maxHeartbeats 800000 in
/-- The body's triple at a generic point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, after0_0, after0_1, after0_2, after0_3]
  have hS : inv m c t.succ = iprop(owns (c : Thread nD τ) (Memref.whole cc0_scratch0) fullShare (norms m c) ∗ (∃ r, prngReg c r)) :=
    if_neg (by simp)
  rw [hS]
  have eb : iblk m c 1 t = book m c := iblk_book m c t
  rw [eb]
  by_cases h0 : t.val = 0
  · have hC : inv m c t.castSucc = iprop((∃ d, owns (c : Thread nD τ) (Memref.whole cc0_scratch0) fullShare d) ∗ (∃ r, prngReg c r)) :=
      (if_pos (by simpa using h0)).trans (phiA_eq c)
    rw [hC]
    iintro ⟨⟨HS0, Hg⟩, Ho, ⟨%d0, H0⟩, ⟨%d1, H1⟩, ⟨%d2, H2⟩, ⟨%d3, H3⟩, ⟨%Y, %hY, H4⟩⟩
    iapply ((run_first c (grid0.coords t) _ _ _ _ _ _ _ _ _ _ _ _ ((atFirst_iff t).mpr h0) (vecs m c t) (book m c) Y) Set.univ _)
    isplitl [H0]; · iexact H0
    isplitl [H1]; · iexact H1
    isplitl [H2]; · iexists _; iexact H2
    isplitl [H3]; · iexists _; iexact H3
    isplitl [H4]; · iexact H4
    isplitl [HS0]; · iexact HS0
    iintro ⟨H0, H1, H2, H3, ⟨%y, %hy, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexists y; isplitr
    · ipureintro; exact rows_step m c t Y y (fun t' h => absurd h (by omega)) hy
    iexact H4
  · have hC : inv m c t.castSucc = iprop(owns (c : Thread nD τ) (Memref.whole cc0_scratch0) fullShare (norms m c) ∗ (∃ r, prngReg c r)) :=
      if_neg (by simpa using h0)
    rw [hC]
    iintro ⟨⟨HS0, Hg⟩, Ho, ⟨%d0, H0⟩, ⟨%d1, H1⟩, ⟨%d2, H2⟩, ⟨%d3, H3⟩, ⟨%Y, %hY, H4⟩⟩
    iapply ((run_later c (grid0.coords t) _ _ _ _ _ _ _ _ _ _ _ _ (fun h => h0 ((atFirst_iff t).mp h)) (vecs m c t) (book m c) Y (norms m c)) Set.univ _)
    isplitl [H0]; · iexact H0
    isplitl [H1]; · iexact H1
    isplitl [H2]; · iexists _; iexact H2
    isplitl [H3]; · iexists _; iexact H3
    isplitl [H4]; · iexact H4
    isplitl [HS0]; · iexact HS0
    iintro ⟨H0, H1, H2, H3, ⟨%y, %hy, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexists y; isplitr
    · ipureintro
      refine rows_step m c t Y y (fun t' h t'' h'' => finds_rows m c t h0 Y hY t'' ?_) hy
      show t''.val ≤ t.val - 1
      omega
    iexact H4

/-- The body table's row at point `t`'s slots is the body as `bodyAt0` spells it. -/
theorem row_eq (t : Fin cfg0.N) : defs₀ (F := F) .tc cfg0.body (cfg0.bodyArgs t (cfg0.slots t)) = bodyAt0 t := by
  unfold defs₀; rw [Defs.onTc_tc]

/-- The body's obligation at every point, the index array's window held to its relation. -/
theorem body_obligation (c : Dev nD) : BodyObligationRel (dats (F := F) m 0 c) (defs₀ (F := F)) Variants.none () Set.univ named (Rl m c) := fun t => by
  rw [bigSep_W0, bigSep_W0, row_eq]
  simp only [show named 0 = false from rfl, show named 1 = false from rfl, show named 2 = false from rfl, show named 3 = false from rfl,
    show named 4 = true from rfl]
  exact triple_restated (sound_body m c t) rfl .rfl fun _ => .rfl

/-- The run: every execution of @main terminates, each windowed array ending at contents the data allow, every other buffer as the later
    lines make it, the semaphores at zero. -/
theorem run_main : θ_run defs (onTc (τ := τ) (main (F := F))) (s₀ m ρ) fun r =>
    (∀ c, (∀ w, (rd m c).ArrAt w cfg0.N (r.2.mem ((spec0 w).arr.view.loc (c.tc : Thread nD τ)))) ∧ TailAt m (rd m) c r.2)
      ∧ r.2.sem = fun _ => 0 :=
  launch m ρ (rd m) (fun c => (body_obligation m c).toRRel) (fun c => (dats m 0 c).share_full fun _ => rfl) (fun _ _ => rfl) (A_eq m)
    (fun c => by
      show _ ⊢ inv m c 0
      rw [show inv m c 0 = Pipeline.ΦA spec0 c from if_pos rfl])
    (fun c => by
      show inv m c (Fin.last cfg0.N) ⊢ _
      rw [show inv m c (Fin.last cfg0.N) = iprop(owns (c : Thread nD τ) (Memref.whole cc0_scratch0) fullShare (norms m c) ∗ (∃ r, prngReg c r))
        from if_neg (show ¬ cfg0.N = 0 by rw [show cfg0.N = 64 from N_0]; omega), phiA_eq]
      iintro ⟨H, Hg⟩
      isplitl [H]
      · iexists _; iexact H
      iexact Hg)

end Cert.Proof.K
-- ==== Proof.Arrays.lean ====
/-
  What the ideal kernel's arrays hold after the run, at every index: the two block outputs and the index array as functions of the
  vectors and the codebook that @main is called with, and the results @main makes of them.
-/
module

public import proofs.«01_k».proof.Proof.Run
public import Idealize.ShloMosaic.Lib.Pipeline.ArrRel
public import Idealize.ShloMosaic.Lib.Pipeline.ValueKit.Basic
public import Idealize.ShloMosaic.Lib.Pointwise

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA
open Idealize.ShloMosaic.Pipeline (Dat RDat Window)
open Idealize.SL.Sem

variable {F : FTy → Type} [FloatOps F]

variable (m : (ℓ : Loc nD τ sig) → Buf (Elt F) ℓ) (ρ : Dev nD → PrngReg)

/-- Batch `b`'s block of the vectors `x`, channels by positions. -/
def blockOf (x : Vec F S64x1024x32 .f32) (b : Fin 64) : Vec F S1x32x1024 .f32 := fun j => x (ix3 b (j 2) (j 1))

/-- The first result: at batch `b`, position `r` and channel `h`, the first block output of the batch's block. -/
def kX (x : Vec F S64x1024x32 .f32) (cb : Vec F S1024x32 .f32) : Vec F S64x1024x32 .f32 := fun j =>
  outX (blockOf x (j 0)) cb (k0_pay4 cb) (ix3 0 (j 2) (j 1))

/-- The second result, likewise. -/
def kL (x : Vec F S64x1024x32 .f32) (cb : Vec F S1024x32 .f32) : Vec F S64x1024x32 .f32 := fun j =>
  outL (blockOf x (j 0)) cb (k0_pay4 cb) (ix3 0 (j 2) (j 1))

/-- The third result: at batch `b` and position `r`, the index found for that position of the batch's block. -/
def kN (x : Vec F S64x1024x32 .f32) (cb : Vec F S1024x32 .f32) : Vec F S1x64x1024 .i32 := fun j =>
  k0_pay7 (blockOf x (j 1)) cb (k0_pay4 cb) (ix3 0 0 (j 2))

/-! ## The blocks -/

/-- The block index of each window that moves: the point on the first axis, zero on the others. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

/-- A point as a batch, and a batch as a point. -/
abbrev bat (t : Fin cfg0.N) : Fin 64 := ⟨t.val, lt_of_lt_of_eq t.isLt (show cfg0.N = 64 from N_0)⟩
abbrev pt (b : Fin 64) : Fin cfg0.N := ⟨b.val, lt_of_lt_of_eq b.isLt (show 64 = cfg0.N from N_0.symm)⟩

/-- Two indices with equal coordinates are equal. -/
theorem idx3_ext {n0 n1 n2 : Nat} {x y : (⟨3, ![n0, n1, n2]⟩ : Shape).Idx} (h0 : (x 0).val = (y 0).val) (h1 : (x 1).val = (y 1).val)
    (h2 : (x 2).val = (y 2).val) : x = y := by
  funext a; apply Fin.ext
  match a with
  | ⟨0, _⟩ => exact h0
  | ⟨1, _⟩ => exact h1
  | ⟨2, _⟩ => exact h2

/-- Where an index of a point's block sits in its array. -/
theorem emb0 (t : Fin cfg0.N) (j : S1x32x1024.Idx) :
    (((cfg0.win 0).blk t).view.emb j : S64x32x1024.Idx) = ix3 (bat t) (j 1) (j 2) := by
  obtain ⟨e0, e1, e2⟩ := index0 t
  have hj : (j 0).val < 1 := (j 0).isLt
  refine idx3_ext ?_ ?_ ?_
  · show win0_0.index t (0 : Fin 3) * 1 + 1 * (j 0).val = t.val; omega
  · show win0_0.index t (1 : Fin 3) * 32 + 1 * (j 1).val = (j 1).val; omega
  · show win0_0.index t (2 : Fin 3) * 1024 + 1 * (j 2).val = (j 2).val; omega

theorem emb2 (t : Fin cfg0.N) (j : S1x32x1024.Idx) :
    (((cfg0.win 2).blk t).view.emb j : S64x32x1024.Idx) = ix3 (bat t) (j 1) (j 2) := by
  obtain ⟨e0, e1, e2⟩ := index2 t
  have hj : (j 0).val < 1 := (j 0).isLt
  refine idx3_ext ?_ ?_ ?_
  · show win0_2.index t (0 : Fin 3) * 1 + 1 * (j 0).val = t.val; omega
  · show win0_2.index t (1 : Fin 3) * 32 + 1 * (j 1).val = (j 1).val; omega
  · show win0_2.index t (2 : Fin 3) * 1024 + 1 * (j 2).val = (j 2).val; omega

theorem emb3 (t : Fin cfg0.N) (j : S1x32x1024.Idx) :
    (((cfg0.win 3).blk t).view.emb j : S64x32x1024.Idx) = ix3 (bat t) (j 1) (j 2) := by
  obtain ⟨e0, e1, e2⟩ := index3 t
  have hj : (j 0).val < 1 := (j 0).isLt
  refine idx3_ext ?_ ?_ ?_
  · show win0_3.index t (0 : Fin 3) * 1 + 1 * (j 0).val = t.val; omega
  · show win0_3.index t (1 : Fin 3) * 32 + 1 * (j 1).val = (j 1).val; omega
  · show win0_3.index t (2 : Fin 3) * 1024 + 1 * (j 2).val = (j 2).val; omega

/-- The array the region reads its vectors from: @main's, its last two axes exchanged. -/
theorem V_main_v0 (c : Dev nD) :
    V m c main_v0 = transpose S64x32x1024 [0, 2, 1] (m ((c : Thread nD τ).loc main_arg0)) transposes_S64x1024x32_S64x32x1024_0_2_1 := by
  show StableHlo.after (hostOps0 (F := F)) _ (Proc.devRef .tc main_v0) = _
  after_results_simp
  try rfl

/-- The block of vectors at a point. -/
theorem vecs_eq (c : Dev nD) (t : Fin cfg0.N) : vecs m c t = blockOf (m ((c : Thread nD τ).loc main_arg0)) (bat t) := by
  funext j
  show V m c main_v0 (((cfg0.win 0).blk t).view.emb j) = m ((c : Thread nD τ).loc main_arg0) (ix3 (bat t) (j 2) (j 1))
  rw [emb0 t j, V_main_v0]
  refine transpose_apply _ _ _ _ _ ?_
  intro a
  match a with
  | ⟨0, _⟩ => rfl
  | ⟨1, _⟩ => rfl
  | ⟨2, _⟩ => rfl

/-! ## The arrays after the run -/

/-- What the two block outputs' arrays hold, channels by positions. -/
def arrX (c : Dev nD) : Vec F S64x32x1024 .f32 := fun j => outX (vecs m c (pt (j 0))) (book m c) (norms m c) (ix3 0 (j 1) (j 2))
def arrL (c : Dev nD) : Vec F S64x32x1024 .f32 := fun j => outL (vecs m c (pt (j 0))) (book m c) (norms m c) (ix3 0 (j 1) (j 2))

/-- An array whose window is named exactly ends as the exact data say. -/
theorem exact_at (c : Dev nD) (w : Fin cfg0.W) (hw : named w = false) {G : Buf (Elt F) ((cfg0.win w).arr.view.loc (c.tc : Thread nD τ))}
    (h : (rd m c).ArrAt w cfg0.N G) : G = (dats m 0 c).arrAt w cfg0.N :=
  ((dats m 0 c).toR.override_arrAt (by simp only [hw]) cfg0.N G).trans ((dats m 0 c).toR_arrAt_iff w cfg0.N G) |>.mp h

/-- Every index of the array is in the block of its batch's point. -/
theorem cover2 (i : S64x32x1024.Idx) : ∃ t : Fin cfg0.N, (cfg0.win 2).flush t = true ∧ i ∈ ((cfg0.win 2).blk t).view.set := by
  have e : (((cfg0.win 2).blk (pt (i 0))).view.emb (ix3 0 (i 1) (i 2) : S1x32x1024.Idx) : S64x32x1024.Idx) = i :=
    (emb2 (pt (i 0)) (ix3 0 (i 1) (i 2))).trans (idx3_ext rfl rfl rfl)
  refine ⟨pt (i 0), flush0_2 _, ?_⟩
  have h := ((cfg0.win 2).blk (pt (i 0))).view.emb_mem_set (ix3 0 (i 1) (i 2) : S1x32x1024.Idx)
  exact Eq.mp (congrArg (fun k : S64x32x1024.Idx => k ∈ ((cfg0.win 2).blk (pt (i 0))).view.set) e) h

theorem final2 (c : Dev nD) {G : Vec F S64x32x1024 .f32} (h : (rd m c).ArrAt 2 cfg0.N G) : G = arrX m c := by
  have h1 : G = (dats m 0 c).arrAt 2 cfg0.N := exact_at m c 2 rfl h
  rw [h1]
  refine (dats m 0 c).arrAt_eq_of_cover 2 (arrX m c) (fun t _ => ?_) cover2
  · show (cfg0.win 2).cut (grid0.coords t) ((dats m 0 c).after 2 t) = _
    rw [after0_2]
    funext j
    show outX (vecs m c t) (book m c) (norms m c) j = arrX m c (((cfg0.win 2).blk t).view.emb j)
    rw [emb2 t j]
    show _ = outX (vecs m c t) (book m c) (norms m c) (ix3 0 (j 1) (j 2))
    refine congrArg _ (idx3_ext ?_ rfl rfl)
    have hj : (j 0).val < 1 := (j 0).isLt
    show (j 0).val = 0; omega

/-- Every index of the array is in the block of its batch's point. -/
theorem cover3 (i : S64x32x1024.Idx) : ∃ t : Fin cfg0.N, (cfg0.win 3).flush t = true ∧ i ∈ ((cfg0.win 3).blk t).view.set := by
  have e : (((cfg0.win 3).blk (pt (i 0))).view.emb (ix3 0 (i 1) (i 2) : S1x32x1024.Idx) : S64x32x1024.Idx) = i :=
    (emb3 (pt (i 0)) (ix3 0 (i 1) (i 2))).trans (idx3_ext rfl rfl rfl)
  refine ⟨pt (i 0), flush0_3 _, ?_⟩
  have h := ((cfg0.win 3).blk (pt (i 0))).view.emb_mem_set (ix3 0 (i 1) (i 2) : S1x32x1024.Idx)
  exact Eq.mp (congrArg (fun k : S64x32x1024.Idx => k ∈ ((cfg0.win 3).blk (pt (i 0))).view.set) e) h

theorem final3 (c : Dev nD) {G : Vec F S64x32x1024 .f32} (h : (rd m c).ArrAt 3 cfg0.N G) : G = arrL m c := by
  have h1 : G = (dats m 0 c).arrAt 3 cfg0.N := exact_at m c 3 rfl h
  rw [h1]
  refine (dats m 0 c).arrAt_eq_of_cover 3 (arrL m c) (fun t _ => ?_) cover3
  · show (cfg0.win 3).cut (grid0.coords t) ((dats m 0 c).after 3 t) = _
    rw [after0_3]
    funext j
    show outL (vecs m c t) (book m c) (norms m c) j = arrL m c (((cfg0.win 3).blk t).view.emb j)
    rw [emb3 t j]
    show _ = outL (vecs m c t) (book m c) (norms m c) (ix3 0 (j 1) (j 2))
    refine congrArg _ (idx3_ext ?_ rfl rfl)
    have hj : (j 0).val < 1 := (j 0).isLt
    show (j 0).val = 0; omega

/-- The last point, the only one that writes the index array back; its block is the whole array. -/
theorem whole4 : (cfg0.win 4).WholeAt (pt 63) :=
  ⟨(flush0_4 _).mpr rfl, fun t h => Fin.ext (by
      have h1 := (flush0_4 t).mp h
      have h2 : t.val < 64 := (bat t).isLt
      show t.val = 63
      omega), by
    intro a
    match a with
    | ⟨0, _⟩ => exact ⟨rfl, rfl⟩
    | ⟨1, _⟩ => exact ⟨rfl, rfl⟩
    | ⟨2, _⟩ => exact ⟨rfl, rfl⟩⟩

theorem final4 (c : Dev nD) {G : Vec F S1x64x1024 .i32} (h : (rd m c).ArrAt 4 cfg0.N G) :
    G = kN (m ((c : Thread nD τ).loc main_arg0)) (m ((c : Thread nD τ).loc main_arg2)) := by
  obtain ⟨X, hX, hG⟩ := h.emb_eq_of_wholeAt whole4
  have hR : RowsUpTo m c (pt 63) X := (dats m 0 c).toRRel_leaves (fgt := named) (Rl := Rl m c) (w := 4) rfl hX
  funext j
  have hj : (j 1).val < 64 := (j 1).isLt
  refine (hG j).trans ((hR (pt (j 1)) (by show (j 1).val ≤ 63; omega) j (ix3 0 0 (j 2)) rfl rfl).trans ?_)
  rw [vecs_eq, show norms m c = k0_pay4 (book m c) from rfl, show book m c = m ((c : Thread nD τ).loc main_arg2) from V_main_arg2 m c]
  rfl

/-- The two block outputs' arrays with their last two axes exchanged are the results. -/
theorem arrX_T (c : Dev nD) : transpose S64x1024x32 [0, 2, 1] (arrX m c) transposes_S64x32x1024_S64x1024x32_0_2_1
    = kX (m ((c : Thread nD τ).loc main_arg0)) (m ((c : Thread nD τ).loc main_arg2)) := by
  funext j
  refine (transpose_apply _ _ _ j (ix3 (j 0) (j 2) (j 1)) ?_).trans ?_
  · intro a
    match a with
    | ⟨0, _⟩ => rfl
    | ⟨1, _⟩ => rfl
    | ⟨2, _⟩ => rfl
  · unfold arrX
    rw [vecs_eq, show norms m c = k0_pay4 (book m c) from rfl, show book m c = m ((c : Thread nD τ).loc main_arg2) from V_main_arg2 m c]
    rfl

theorem arrL_T (c : Dev nD) : transpose S64x1024x32 [0, 2, 1] (arrL m c) transposes_S64x32x1024_S64x1024x32_0_2_1
    = kL (m ((c : Thread nD τ).loc main_arg0)) (m ((c : Thread nD τ).loc main_arg2)) := by
  funext j
  refine (transpose_apply _ _ _ j (ix3 (j 0) (j 2) (j 1)) ?_).trans ?_
  · intro a
    match a with
    | ⟨0, _⟩ => rfl
    | ⟨1, _⟩ => rfl
    | ⟨2, _⟩ => rfl
  · unfold arrL
    rw [vecs_eq, show norms m c = k0_pay4 (book m c) from rfl, show book m c = m ((c : Thread nD τ).loc main_arg2) from V_main_arg2 m c]
    rfl

/-! ## The run -/

/-- A buffer that no window stages bypasses the region. -/
theorem mem_rest (b : Ref sig .tc) (hs : b.isScoped = false) (ha : ∀ w, (spec0 w).arr.view.ref ≠ b) :
    b ∈ Pipeline.restRefsP sig Pipeline.Prefetch.none spec0 := by
  classical
  refine Finset.mem_sdiff.mpr ⟨Pipeline.mem_restRefs_of b hs ha, fun h => ?_⟩
  obtain ⟨k, -, -⟩ := Finset.mem_image.mp h
  exact k.elim0

/-- The run of the ideal kernel program: the five results, the arguments unchanged, every semaphore counter at zero. -/
theorem run_value : θ_run defs (onTc (τ := τ) (main (F := F))) ⟨m, fun _ => 0, ρ⟩ fun r =>
    (∀ c : Dev nD,
      r.2.mem ((c.tc : Thread nD τ).loc main_v2) = kX (m ((c.tc : Thread nD τ).loc main_arg0)) (m ((c.tc : Thread nD τ).loc main_arg2))
      ∧ r.2.mem ((c.tc : Thread nD τ).loc main_v3) = kL (m ((c.tc : Thread nD τ).loc main_arg0)) (m ((c.tc : Thread nD τ).loc main_arg2))
      ∧ r.2.mem ((c.tc : Thread nD τ).loc main_v1_2) = kN (m ((c.tc : Thread nD τ).loc main_arg0)) (m ((c.tc : Thread nD τ).loc main_arg2))
      ∧ r.2.mem ((c.tc : Thread nD τ).loc main_v4)
          = broadcastInDim S1x1024x32 ![1, 2] bcast_S1024x32_S1x1024x32_1_2 (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 := by
  refine (θ_run defs _ _).mono (fun r h => ⟨fun c => ?_, h.2⟩) (run_main m ρ)
  obtain ⟨hArr, A, hA, hrest⟩ := h.1 c
  have a2 : StableHlo.after (hostOps1 (F := F)) (Pipeline.withArrays spec0 c (V0 m c) A) (Proc.devRef .tc main_v2)
      = transpose S64x1024x32 [0, 2, 1] (A 2) transposes_S64x32x1024_S64x1024x32_0_2_1 := by
    after_results_simp
    exact congrArg (fun v => transpose S64x1024x32 [0, 2, 1] v transposes_S64x32x1024_S64x1024x32_0_2_1)
      (Pipeline.withArrays_arr spec0 launch0.win.arr_inj c (V0 m c) A 2)
  have a3 : StableHlo.after (hostOps1 (F := F)) (Pipeline.withArrays spec0 c (V0 m c) A) (Proc.devRef .tc main_v3)
      = transpose S64x1024x32 [0, 2, 1] (A 3) transposes_S64x32x1024_S64x1024x32_0_2_1 := by
    after_results_simp
    exact congrArg (fun v => transpose S64x1024x32 [0, 2, 1] v transposes_S64x32x1024_S64x1024x32_0_2_1)
      (Pipeline.withArrays_arr spec0 launch0.win.arr_inj c (V0 m c) A 3)
  have a4 : StableHlo.after (hostOps1 (F := F)) (Pipeline.withArrays spec0 c (V0 m c) A) (Proc.devRef .tc main_v4)
      = broadcastInDim S1x1024x32 ![1, 2] bcast_S1024x32_S1x1024x32_1_2 (A 1) := by
    after_results_simp
    exact congrArg (fun v => broadcastInDim S1x1024x32 ![1, 2] bcast_S1024x32_S1x1024x32_1_2 v)
      (Pipeline.withArrays_arr spec0 launch0.win.arr_inj c (V0 m c) A 1)
  have e1 : A 1 = m ((c.tc : Thread nD τ).loc main_arg2) :=
    (show A 1 = (rd m c).A 1 from by have := hA 1; rw [(rd m c).ArrAt_in 1 rfl] at this; exact this).trans (V_main_arg2 m c)
  have k0 : StableHlo.after (hostOps1 (F := F)) (Pipeline.withArrays spec0 c (V0 m c) A) (Proc.devRef .tc main_arg0) = V0 m c (Proc.devRef .tc main_arg0) := by
    after_results_simp
    exact Pipeline.withArrays_of_ne spec0 c (V0 m c) A main_arg0 (by decide)
  have k1 : StableHlo.after (hostOps1 (F := F)) (Pipeline.withArrays spec0 c (V0 m c) A) (Proc.devRef .tc main_arg1) = V0 m c (Proc.devRef .tc main_arg1) := by
    after_results_simp
    exact Pipeline.withArrays_of_ne spec0 c (V0 m c) A main_arg1 (by decide)
  have k3 : StableHlo.after (hostOps1 (F := F)) (Pipeline.withArrays spec0 c (V0 m c) A) (Proc.devRef .tc main_arg3) = V0 m c (Proc.devRef .tc main_arg3) := by
    after_results_simp
    exact Pipeline.withArrays_of_ne spec0 c (V0 m c) A main_arg3 (by decide)
  refine ⟨?_, ?_, final4 m c (hArr 4), ?_, ?_, ?_, ?_, ?_⟩
  · rw [hrest main_v2 (mem_rest _ (by decide) (by decide)), a2, final2 m c (hA 2)]; exact arrX_T m c
  · rw [hrest main_v3 (mem_rest _ (by decide) (by decide)), a3, final3 m c (hA 3)]; exact arrL_T m c
  · rw [hrest main_v4 (mem_rest _ (by decide) (by decide)), a4, e1]
  · rw [hrest main_arg0 (mem_rest _ (by decide) (by decide)), k0]; exact V_main_arg0 m c
  · rw [hrest main_arg1 (mem_rest _ (by decide) (by decide)), k1]; exact V_main_arg1 m c
  · exact (show _ = (rd m c).A 1 from by have := hArr 1; rw [(rd m c).ArrAt_in 1 rfl] at this; exact this).trans (V_main_arg2 m c)
  · rw [hrest main_arg3 (mem_rest _ (by decide) (by decide)), k3]; exact V_main_arg3 m c

end Cert.Proof.K
-- ==== Proof.Frame.lean ====
/-
  The frame of the kernel on float words. The kernel and its ideal reading are one program text, over any float values, under two
  names; so the run of the ideal text, proved for any float values, is the kernel's at the float words.
-/
module

public import proofs.«01_k».proof.Proof.Gen.Kernel
public import proofs.«01_k».proof.Proof.Arrays

@[expose] public section

set_option maxRecDepth 16384

noncomputable section

namespace Cert.Proof.P

open Idealize.ShloMosaic Idealize.SL.Sem

variable {F : FTy → Type} [FloatOps F]

/-- The two body tables are one. -/
theorem bodies_eq : @Cert.Kernel.defs₀ F _ _ = @Cert.KernelIdeal.defs₀ F _ _ := by
  unfold Cert.Kernel.defs₀ Cert.KernelIdeal.defs₀
  refine congrArg Defs.onTc ?_
  funext l a
  match l, a with
  | 0, (t, s) => rfl

/-- So are the tables with the pipelines. -/
theorem defs_eq : Cert.Kernel.defs (F := F) = Cert.KernelIdeal.defs (F := F) :=
  congrArg (Pipeline.defs (Cert.KernelIdeal.pcfgs (F := F))) (bodies_eq (F := F))

/-- So is @main. -/
theorem main_eq : Cert.Kernel.main (F := F) = Cert.KernelIdeal.main (F := F) := rfl

/-- The ideal text's run at any float values, of the arguments and semaphores only. -/
theorem frame_text (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run _ _ _).mono (fun _ h => ⟨fun c => (h.1 c).2.2.2.2, h.2⟩) (K.run_value (F := F) m ρ)

/-- The kernel's run at any float values: its arguments end unchanged, its semaphores at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0 := by
  rw [defs_eq]
  exact frame_text m ρ

end Cert.Proof.P
-- ==== Proof.Ref.lean ====
/-
  The run of the REFERENCE program at any float values: @main is a straight line of operations (the two outlined functions inlined),
  so every buffer ends at the fold of the operations' results over the launch contents. The stage functions below name what the
  reference computes of its two read arguments: the flat rows, the distances, the index of the nearest code, the selected codes.
-/
module

public import Idealize.ShloMosaic.Lib.StableHlo.Run
public import Idealize.ShloMosaic.Lib.Quiescent
public import proofs.«01_k».proof.Proof.Gen.ReferenceIdeal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- Contents of one array. -/
local notation "T[" s ", " e "]" => BufTy.Contents (Elt F) (BufTy.mk s e)

/-- @main's operations, in order, its two calls inlined, over the six operations that reduce or contract. -/
abbrev opsG (g1 : T[S65536x1024, .f32] → T[S65536x1024, .i32] → T[S_, .f32] → T[S_, .i32] → T[S65536, .f32])
    (g2 : T[S65536x1024, .f32] → T[S65536x1024, .i32] → T[S_, .f32] → T[S_, .i32] → T[S65536, .i32])
    (r1 : T[S65536x32, .f32] → T[S_, .f32] → T[S65536, .f32]) (r2 : T[S32x1024, .f32] → T[S_, .f32] → T[S1024, .f32])
    (m1 : T[S65536x32, .f32] → T[S32x1024, .f32] → T[S65536x1024, .f32])
    (m2 : T[S65536x1024, .f32] → T[S1024x32, .f32] → T[S65536x32, .f32]) : List (HloOp τ sig (Elt F)) :=
  [ reshape main_arg0 main_v0 (rfl : (.f32 : EltTy) = .f32) shapeCasts_S64x1024x32_S65536x32,
    binary main_v0 main_v0 main_v1 (mulf : (⟨S65536x32, .f32⟩ : BufTy).Contents (Elt F) → (⟨S65536x32, .f32⟩ : BufTy).Contents (Elt F) → (⟨S65536x32, .f32⟩ : BufTy).Contents (Elt F)),
    nullary main_cst (constant S_ .f32 0x00000000#32),
    binary main_v1 main_cst main_v2 (r1 : (⟨S65536x32, .f32⟩ : BufTy).Contents (Elt F) → (⟨S_, .f32⟩ : BufTy).Contents (Elt F) → (⟨S65536, .f32⟩ : BufTy).Contents (Elt F)),
    unary main_v2 main_v3 (broadcastInDim S65536x1 ![0] bcast_S65536_S65536x1_0 : (⟨S65536, .f32⟩ : BufTy).Contents (Elt F) → (⟨S65536x1, .f32⟩ : BufTy).Contents (Elt F)),
    unary main_arg2 main_v4 ((transpose S32x1024 [1, 0] · transposes_S1024x32_S32x1024_1_0) : (⟨S1024x32, .f32⟩ : BufTy).Contents (Elt F) → (⟨S32x1024, .f32⟩ : BufTy).Contents (Elt F)),
    binary main_v0 main_v4 main_v5 (m1 : (⟨S65536x32, .f32⟩ : BufTy).Contents (Elt F) → (⟨S32x1024, .f32⟩ : BufTy).Contents (Elt F) → (⟨S65536x1024, .f32⟩ : BufTy).Contents (Elt F)),
    nullary main_cst_0 (constant S_ .f32 0x40000000#32),
    unary main_cst_0 main_v6 (broadcastInDim S65536x1024 ![] bcast_S_S65536x1024 : (⟨S_, .f32⟩ : BufTy).Contents (Elt F) → (⟨S65536x1024, .f32⟩ : BufTy).Contents (Elt F)),
    binary main_v6 main_v5 main_v7 (mulf : (⟨S65536x1024, .f32⟩ : BufTy).Contents (Elt F) → (⟨S65536x1024, .f32⟩ : BufTy).Contents (Elt F) → (⟨S65536x1024, .f32⟩ : BufTy).Contents (Elt F)),
    unary main_v3 main_v8 (broadcastInDim S65536x1024 ![0, 1] bcast_S65536x1_S65536x1024_0_1 : (⟨S65536x1, .f32⟩ : BufTy).Contents (Elt F) → (⟨S65536x1024, .f32⟩ : BufTy).Contents (Elt F)),
    binary main_v8 main_v7 main_v9 (subf : (⟨S65536x1024, .f32⟩ : BufTy).Contents (Elt F) → (⟨S65536x1024, .f32⟩ : BufTy).Contents (Elt F) → (⟨S65536x1024, .f32⟩ : BufTy).Contents (Elt F)),
    unary main_arg2 main_v10 ((transpose S32x1024 [1, 0] · transposes_S1024x32_S32x1024_1_0) : (⟨S1024x32, .f32⟩ : BufTy).Contents (Elt F) → (⟨S32x1024, .f32⟩ : BufTy).Contents (Elt F)),
    binary main_v10 main_v10 main_v11 (mulf : (⟨S32x1024, .f32⟩ : BufTy).Contents (Elt F) → (⟨S32x1024, .f32⟩ : BufTy).Contents (Elt F) → (⟨S32x1024, .f32⟩ : BufTy).Contents (Elt F)),
    nullary main_cst_1 (constant S_ .f32 0x00000000#32),
    binary main_v11 main_cst_1 main_v12 (r2 : (⟨S32x1024, .f32⟩ : BufTy).Contents (Elt F) → (⟨S_, .f32⟩ : BufTy).Contents (Elt F) → (⟨S1024, .f32⟩ : BufTy).Contents (Elt F)),
    unary main_v12 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S65536x1024 ![0, 1] bcast_S1x1024_S65536x1024_0_1 : (⟨S1x1024, .f32⟩ : BufTy).Contents (Elt F) → (⟨S65536x1024, .f32⟩ : BufTy).Contents (Elt F)),
    binary main_v9 main_v14 main_v15 (addf : (⟨S65536x1024, .f32⟩ : BufTy).Contents (Elt F) → (⟨S65536x1024, .f32⟩ : BufTy).Contents (Elt F) → (⟨S65536x1024, .f32⟩ : BufTy).Contents (Elt F)),
    nullary main_call0_v0 ((iotaInDim S65536x1024 32 1) : (⟨S65536x1024, .i32⟩ : BufTy).Contents (Elt F)),
    nullary main_call0_cst ((constant S_ .f32 0x7F800000#32) : (⟨S_, .f32⟩ : BufTy).Contents (Elt F)),
    nullary main_call0_c ((constantI S_ 32 0#32) : (⟨S_, .i32⟩ : BufTy).Contents (Elt F)),
    quaternary main_v15 main_call0_v0 main_call0_cst main_call0_c main_call0_v1_0 (g1 : (⟨S65536x1024, .f32⟩ : BufTy).Contents (Elt F) → (⟨S65536x1024, .i32⟩ : BufTy).Contents (Elt F) → (⟨S_, .f32⟩ : BufTy).Contents (Elt F) → (⟨S_, .i32⟩ : BufTy).Contents (Elt F) → (⟨S65536, .f32⟩ : BufTy).Contents (Elt F)),
    quaternary main_v15 main_call0_v0 main_call0_cst main_call0_c main_v16 (g2 : (⟨S65536x1024, .f32⟩ : BufTy).Contents (Elt F) → (⟨S65536x1024, .i32⟩ : BufTy).Contents (Elt F) → (⟨S_, .f32⟩ : BufTy).Contents (Elt F) → (⟨S_, .i32⟩ : BufTy).Contents (Elt F) → (⟨S65536, .i32⟩ : BufTy).Contents (Elt F)),
    unary main_v16 main_call1_v0 ((broadcastInDim S65536x1 ![0] bcast_S65536_S65536x1_0) : (⟨S65536, .i32⟩ : BufTy).Contents (Elt F) → (⟨S65536x1, .i32⟩ : BufTy).Contents (Elt F)),
    nullary main_call1_v1 ((iotaInDim S1x1024 32 1) : (⟨S1x1024, .i32⟩ : BufTy).Contents (Elt F)),
    unary main_call1_v0 main_call1_v2 ((broadcastInDim S65536x1024 ![0, 1] bcast_S65536x1_S65536x1024_0_1) : (⟨S65536x1, .i32⟩ : BufTy).Contents (Elt F) → (⟨S65536x1024, .i32⟩ : BufTy).Contents (Elt F)),
    unary main_call1_v1 main_call1_v3 ((broadcastInDim S65536x1024 ![0, 1] bcast_S1x1024_S65536x1024_0_1) : (⟨S1x1024, .i32⟩ : BufTy).Contents (Elt F) → (⟨S65536x1024, .i32⟩ : BufTy).Contents (Elt F)),
    binary main_call1_v2 main_call1_v3 main_call1_v4 ((cmpi .eq) : (⟨S65536x1024, .i32⟩ : BufTy).Contents (Elt F) → (⟨S65536x1024, .i32⟩ : BufTy).Contents (Elt F) → (⟨S65536x1024, .i1⟩ : BufTy).Contents (Elt F)),
    unary main_call1_v4 main_v17 ((uitofp .f32) : (⟨S65536x1024, .i1⟩ : BufTy).Contents (Elt F) → (⟨S65536x1024, .f32⟩ : BufTy).Contents (Elt F)),
    binary main_v17 main_arg2 main_v18 (m2 : (⟨S65536x1024, .f32⟩ : BufTy).Contents (Elt F) → (⟨S1024x32, .f32⟩ : BufTy).Contents (Elt F) → (⟨S65536x32, .f32⟩ : BufTy).Contents (Elt F)),
    binary main_v18 main_v0 main_v19 (subf : (⟨S65536x32, .f32⟩ : BufTy).Contents (Elt F) → (⟨S65536x32, .f32⟩ : BufTy).Contents (Elt F) → (⟨S65536x32, .f32⟩ : BufTy).Contents (Elt F)),
    binary main_v19 main_v19 main_v20 (mulf : (⟨S65536x32, .f32⟩ : BufTy).Contents (Elt F) → (⟨S65536x32, .f32⟩ : BufTy).Contents (Elt F) → (⟨S65536x32, .f32⟩ : BufTy).Contents (Elt F)),
    binary main_v18 main_v0 main_v21 (subf : (⟨S65536x32, .f32⟩ : BufTy).Contents (Elt F) → (⟨S65536x32, .f32⟩ : BufTy).Contents (Elt F) → (⟨S65536x32, .f32⟩ : BufTy).Contents (Elt F)),
    binary main_v21 main_v21 main_v22 (mulf : (⟨S65536x32, .f32⟩ : BufTy).Contents (Elt F) → (⟨S65536x32, .f32⟩ : BufTy).Contents (Elt F) → (⟨S65536x32, .f32⟩ : BufTy).Contents (Elt F)),
    nullary main_cst_2 (constant S_ .f32 0x3E800000#32),
    unary main_cst_2 main_v23 (broadcastInDim S65536x32 ![] bcast_S_S65536x32 : (⟨S_, .f32⟩ : BufTy).Contents (Elt F) → (⟨S65536x32, .f32⟩ : BufTy).Contents (Elt F)),
    binary main_v23 main_v22 main_v24 (mulf : (⟨S65536x32, .f32⟩ : BufTy).Contents (Elt F) → (⟨S65536x32, .f32⟩ : BufTy).Contents (Elt F) → (⟨S65536x32, .f32⟩ : BufTy).Contents (Elt F)),
    binary main_v20 main_v24 main_v25 (addf : (⟨S65536x32, .f32⟩ : BufTy).Contents (Elt F) → (⟨S65536x32, .f32⟩ : BufTy).Contents (Elt F) → (⟨S65536x32, .f32⟩ : BufTy).Contents (Elt F)),
    reshape main_v25 main_v26 (rfl : (.f32 : EltTy) = .f32) shapeCasts_S65536x32_S64x1024x32,
    reshape main_v18 main_v27 (rfl : (.f32 : EltTy) = .f32) shapeCasts_S65536x32_S64x1024x32,
    reshape main_v16 main_v28 (rfl : (.i32 : EltTy) = .i32) shapeCasts_S65536_S64x1024,
    unary main_v28 main_v29 (broadcastInDim S1x64x1024 ![1, 2] bcast_S64x1024_S1x64x1024_1_2 : (⟨S64x1024, .i32⟩ : BufTy).Contents (Elt F) → (⟨S1x64x1024, .i32⟩ : BufTy).Contents (Elt F)),
    binary main_v27 main_arg0 main_v30 (subf : (⟨S64x1024x32, .f32⟩ : BufTy).Contents (Elt F) → (⟨S64x1024x32, .f32⟩ : BufTy).Contents (Elt F) → (⟨S64x1024x32, .f32⟩ : BufTy).Contents (Elt F)),
    binary main_arg0 main_v30 main_v31 (addf : (⟨S64x1024x32, .f32⟩ : BufTy).Contents (Elt F) → (⟨S64x1024x32, .f32⟩ : BufTy).Contents (Elt F) → (⟨S64x1024x32, .f32⟩ : BufTy).Contents (Elt F)),
    unary main_arg2 main_v32 (broadcastInDim S1x1024x32 ![1, 2] bcast_S1024x32_S1x1024x32_1_2 : (⟨S1024x32, .f32⟩ : BufTy).Contents (Elt F) → (⟨S1x1024x32, .f32⟩ : BufTy).Contents (Elt F)) ]

/-- The minimum of each row, and its index. -/
def argMin1 (x : T[S65536x1024, .f32]) (y : T[S65536x1024, .i32]) (u : T[S_, .f32]) (v : T[S_, .i32]) : T[S65536, .f32] :=
  fun j => (Host.argReduce reducer_argmin_f32_i32 x y u v reducesTo_S65536x1024_S65536_d1 h_S_ j).1
def argMin2 (x : T[S65536x1024, .f32]) (y : T[S65536x1024, .i32]) (u : T[S_, .f32]) (v : T[S_, .i32]) : T[S65536, .i32] :=
  fun j => (Host.argReduce reducer_argmin_f32_i32 x y u v reducesTo_S65536x1024_S65536_d1 h_S_ j).2
/-- The sums of each row. -/
def sumRow (x : T[S65536x32, .f32]) (v : T[S_, .f32]) : T[S65536, .f32] := Host.reduceAdd x v reducesTo_S65536x32_S65536_d1 h_S_
def sumCol (x : T[S32x1024, .f32]) (v : T[S_, .f32]) : T[S1024, .f32] := Host.reduceAdd x v reducesTo_S32x1024_S1024_d0 h_S_
/-- The two products. -/
def mulXC (l : T[S65536x32, .f32]) (r : T[S32x1024, .f32]) : T[S65536x1024, .f32] :=
  Host.dotGeneral dot_S65536x32_S32x1024_S65536x1024_1_0_0_1_n_n none l r
def mulOC (l : T[S65536x1024, .f32]) (r : T[S1024x32, .f32]) : T[S65536x32, .f32] :=
  Host.dotGeneral dot_S65536x1024_S1024x32_S65536x32_1_0_0_1_n_n none l r

/-- @main's operations. -/
abbrev ops : List (HloOp τ sig (Elt F)) := opsG argMin1 argMin2 sumRow sumCol mulXC mulOC

/-- @main is that straight line. -/
theorem main_eq (c : Dev nD) : main (F := F) c = seq ops := rfl

/-- The vectors, one per row. -/
def rows (x : T[S64x1024x32, .f32]) : T[S65536x32, .f32] :=
  shapeCast S65536x32 x shapeCasts_S64x1024x32_S65536x32

/-- The distances: (squares of the row − 2·row·code) + squares of the code. -/
def distG (r1 : T[S65536x32, .f32] → T[S_, .f32] → T[S65536, .f32]) (r2 : T[S32x1024, .f32] → T[S_, .f32] → T[S1024, .f32])
    (m1 : T[S65536x32, .f32] → T[S32x1024, .f32] → T[S65536x1024, .f32])
    (y : T[S65536x32, .f32]) (cb : T[S1024x32, .f32]) : T[S65536x1024, .f32] :=
  addf (subf (broadcastInDim S65536x1024 ![0, 1] bcast_S65536x1_S65536x1024_0_1 (broadcastInDim S65536x1 ![0] bcast_S65536_S65536x1_0
        (r1 (mulf y y) (constant S_ .f32 0x00000000#32))))
      (mulf (broadcastInDim S65536x1024 ![] bcast_S_S65536x1024 (constant S_ .f32 0x40000000#32))
        (m1 y (transpose S32x1024 [1, 0] cb transposes_S1024x32_S32x1024_1_0))))
    (broadcastInDim S65536x1024 ![0, 1] bcast_S1x1024_S65536x1024_0_1 (broadcastInDim S1x1024 ![1] bcast_S1024_S1x1024_1
      (r2 (mulf (transpose S32x1024 [1, 0] cb transposes_S1024x32_S32x1024_1_0) (transpose S32x1024 [1, 0] cb transposes_S1024x32_S32x1024_1_0))
        (constant S_ .f32 0x00000000#32))))

/-- The index of the nearest code to each of the vectors. -/
def idxG (g2 : T[S65536x1024, .f32] → T[S65536x1024, .i32] → T[S_, .f32] → T[S_, .i32] → T[S65536, .i32])
    (r1 : T[S65536x32, .f32] → T[S_, .f32] → T[S65536, .f32]) (r2 : T[S32x1024, .f32] → T[S_, .f32] → T[S1024, .f32])
    (m1 : T[S65536x32, .f32] → T[S32x1024, .f32] → T[S65536x1024, .f32])
    (x : T[S64x1024x32, .f32]) (cb : T[S1024x32, .f32]) : T[S65536, .i32] :=
  g2 (distG r1 r2 m1 (rows x) cb) (iotaInDim S65536x1024 32 1) (constant S_ .f32 0x7F800000#32) (constantI S_ 32 0#32)

/-- One row of zeros and a one per index. -/
def oneHot (n : T[S65536, .i32]) : T[S65536x1024, .f32] :=
  uitofp .f32 (cmpi .eq (broadcastInDim S65536x1024 ![0, 1] bcast_S65536x1_S65536x1024_0_1 (broadcastInDim S65536x1 ![0] bcast_S65536_S65536x1_0 n))
    (broadcastInDim S65536x1024 ![0, 1] bcast_S1x1024_S65536x1024_0_1 (iotaInDim S1x1024 32 1)))

/-- The selected codes. -/
def quantG (g2 : T[S65536x1024, .f32] → T[S65536x1024, .i32] → T[S_, .f32] → T[S_, .i32] → T[S65536, .i32])
    (r1 : T[S65536x32, .f32] → T[S_, .f32] → T[S65536, .f32]) (r2 : T[S32x1024, .f32] → T[S_, .f32] → T[S1024, .f32])
    (m1 : T[S65536x32, .f32] → T[S32x1024, .f32] → T[S65536x1024, .f32])
    (m2 : T[S65536x1024, .f32] → T[S1024x32, .f32] → T[S65536x32, .f32])
    (x : T[S64x1024x32, .f32]) (cb : T[S1024x32, .f32]) : T[S65536x32, .f32] :=
  m2 (oneHot (idxG g2 r1 r2 m1 x cb)) cb

/-- First result of the selected codes: vectors plus (code minus vector). -/
def stOf (x : T[S64x1024x32, .f32]) (q : T[S65536x32, .f32]) : T[S64x1024x32, .f32] :=
  addf x (subf (shapeCast S64x1024x32 q shapeCasts_S65536x32_S64x1024x32) x)

/-- Second result of the selected codes: the squared difference plus a quarter of it. -/
def lossOf (y : T[S65536x32, .f32]) (q : T[S65536x32, .f32]) : T[S64x1024x32, .f32] :=
  shapeCast S64x1024x32 (addf (mulf (subf q y) (subf q y))
    (mulf (broadcastInDim S65536x32 ![] bcast_S_S65536x32 (constant S_ .f32 0x3E800000#32))
      (mulf (subf q y) (subf q y)))) shapeCasts_S65536x32_S64x1024x32

/-- Third result of the indices. -/
def idxOf (n : T[S65536, .i32]) : T[S1x64x1024, .i32] :=
  broadcastInDim S1x64x1024 ![1, 2] bcast_S64x1024_S1x64x1024_1_2 (shapeCast S64x1024 n shapeCasts_S65536_S64x1024)

/-- The fold at the first result's buffer. -/
theorem stG_eq (g1) (g2 : T[S65536x1024, .f32] → T[S65536x1024, .i32] → T[S_, .f32] → T[S_, .i32] → T[S65536, .i32])
    (r1 : T[S65536x32, .f32] → T[S_, .f32] → T[S65536, .f32]) (r2 : T[S32x1024, .f32] → T[S_, .f32] → T[S1024, .f32])
    (m1 : T[S65536x32, .f32] → T[S32x1024, .f32] → T[S65536x1024, .f32])
    (m2 : T[S65536x1024, .f32] → T[S1024x32, .f32] → T[S65536x32, .f32])
     (V : Valuation τ sig (Elt F)) : after (opsG g1 g2 r1 r2 m1 m2) V (main_v31 : DevRef τ sig)
      = stOf (V (main_arg0 : DevRef τ sig)) (quantG g2 r1 r2 m1 m2 (V (main_arg0 : DevRef τ sig)) (V (main_arg2 : DevRef τ sig))) := by
  after_results_simp
  rfl

/-- The fold at the second result's buffer. -/
theorem lossG_eq (g1) (g2 : T[S65536x1024, .f32] → T[S65536x1024, .i32] → T[S_, .f32] → T[S_, .i32] → T[S65536, .i32])
    (r1 : T[S65536x32, .f32] → T[S_, .f32] → T[S65536, .f32]) (r2 : T[S32x1024, .f32] → T[S_, .f32] → T[S1024, .f32])
    (m1 : T[S65536x32, .f32] → T[S32x1024, .f32] → T[S65536x1024, .f32])
    (m2 : T[S65536x1024, .f32] → T[S1024x32, .f32] → T[S65536x32, .f32])
     (V : Valuation τ sig (Elt F)) : after (opsG g1 g2 r1 r2 m1 m2) V (main_v26 : DevRef τ sig)
      = lossOf (rows (V (main_arg0 : DevRef τ sig))) (quantG g2 r1 r2 m1 m2 (V (main_arg0 : DevRef τ sig)) (V (main_arg2 : DevRef τ sig))) := by
  after_results_simp
  rfl

/-- The fold at the third result's buffer. -/
theorem idxG_eq (g1) (g2 : T[S65536x1024, .f32] → T[S65536x1024, .i32] → T[S_, .f32] → T[S_, .i32] → T[S65536, .i32])
    (r1 : T[S65536x32, .f32] → T[S_, .f32] → T[S65536, .f32]) (r2 : T[S32x1024, .f32] → T[S_, .f32] → T[S1024, .f32])
    (m1 : T[S65536x32, .f32] → T[S32x1024, .f32] → T[S65536x1024, .f32])
    (m2 : T[S65536x1024, .f32] → T[S1024x32, .f32] → T[S65536x32, .f32])
     (V : Valuation τ sig (Elt F)) : after (opsG g1 g2 r1 r2 m1 m2) V (main_v29 : DevRef τ sig)
      = idxOf (idxG g2 r1 r2 m1 (V (main_arg0 : DevRef τ sig)) (V (main_arg2 : DevRef τ sig))) := by
  after_results_simp
  rfl

/-- The distances of the reference. -/
abbrev dist (y : T[S65536x32, .f32]) (cb : T[S1024x32, .f32]) : T[S65536x1024, .f32] := distG sumRow sumCol mulXC y cb
/-- The index of the nearest code to each vector, and the selected codes. -/
abbrev idx (x : T[S64x1024x32, .f32]) (cb : T[S1024x32, .f32]) : T[S65536, .i32] := idxG argMin2 sumRow sumCol mulXC x cb
abbrev quant (x : T[S64x1024x32, .f32]) (cb : T[S1024x32, .f32]) : T[S65536x32, .f32] := quantG argMin2 sumRow sumCol mulXC mulOC x cb
/-- The first three results. -/
abbrev outST (x : T[S64x1024x32, .f32]) (cb : T[S1024x32, .f32]) : T[S64x1024x32, .f32] := stOf x (quant x cb)
abbrev outLoss (x : T[S64x1024x32, .f32]) (cb : T[S1024x32, .f32]) : T[S64x1024x32, .f32] := lossOf (rows x) (quant x cb)
abbrev outIdx (x : T[S64x1024x32, .f32]) (cb : T[S1024x32, .f32]) : T[S1x64x1024, .i32] := idxOf (idx x cb)

/-- The fold at the fourth result's buffer: the codebook under a unit axis. -/
theorem book_eq (V : Valuation τ sig (Elt F)) :
    after ops V (main_v32 : DevRef τ sig) = broadcastInDim S1x1024x32 ![1, 2] bcast_S1024x32_S1x1024x32_1_2 (V (main_arg2 : DevRef τ sig)) := by
  after_results_simp

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., binary_bufs_sub .., binary_bufs_sub .., binary_bufs_sub .., nullary_bufs_sub .., unary_bufs_sub .., binary_bufs_sub .., binary_bufs_sub .., reshape_bufs_sub .., reshape_bufs_sub .., reshape_bufs_sub .., unary_bufs_sub .., binary_bufs_sub .., binary_bufs_sub .., unary_bufs_sub ..⟩

/-- From any memory with zero counters: the reference terminates; its five results are the stage functions of its arguments, the
    arguments are unchanged, and every counter ends at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v31) = outST (m ((c.tc : Thread nD τ).loc main_arg0)) (m ((c.tc : Thread nD τ).loc main_arg2))
        ∧ r.2.mem ((c.tc : Thread nD τ).loc main_v26) = outLoss (m ((c.tc : Thread nD τ).loc main_arg0)) (m ((c.tc : Thread nD τ).loc main_arg2))
        ∧ r.2.mem ((c.tc : Thread nD τ).loc main_v29) = outIdx (m ((c.tc : Thread nD τ).loc main_arg0)) (m ((c.tc : Thread nD τ).loc main_arg2))
        ∧ r.2.mem ((c.tc : Thread nD τ).loc main_v32) = broadcastInDim S1x1024x32 ![1, 2] bcast_S1024x32_S1x1024x32_1_2 (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v31).trans (stG_eq ..), (h c main_v26).trans (lossG_eq ..),
      (h c main_v29).trans (idxG_eq ..), (h c main_v32).trans (book_eq _),
      (h c main_arg0).trans (arg0_eq _), (h c main_arg1).trans (arg1_eq _), (h c main_arg2).trans (arg2_eq _), (h c main_arg3).trans (arg3_eq _)⟩,
      sem_eq_zero_of_no_sems rfl r.2⟩)
    (run_seq scopedRefs_eq scopedSems_eq defs main (fun _ => ops) main_eq (fun _ => ops_sub) m ρ)

end Cert.Proof.Ref

end
-- ==== Proof.Nearest.lean ====
/-
  The index of the least of finitely many extended reals, the first of several: what it is, that the minimum over the
  candidates "k where the value is the least, a larger number elsewhere" is it, and that a fold keeping of two (value, index)
  pairs the one of the smaller value, on equal values of the smaller index, ends at it in whatever order it meets the pairs.
-/
module

public import Idealize.ShloMosaic.Lib.Pointwise
public import proofs.«01_k».proof.Proof.Gen.ReferenceIdeal

@[expose] public section

set_option maxRecDepth 16384

noncomputable section

namespace Cert.Proof.Nearest

open Idealize.ShloMosaic

/-- Some index has the least value and is the first that has it. -/
theorem exists_first (d : Fin 1024 → EReal) : ∃ n : Fin 1024, ∀ k, d n < d k ∨ d n = d k ∧ n ≤ k := by
  obtain ⟨n, -, hn⟩ := Finset.exists_min_image Finset.univ (fun k => toLex (d k, k)) ⟨0, Finset.mem_univ _⟩
  exact ⟨n, fun k => Prod.Lex.le_iff.1 (hn k (Finset.mem_univ k))⟩

/-- The first index of the least value. -/
def first (d : Fin 1024 → EReal) : Fin 1024 := (exists_first d).choose

/-- Every value is larger than the one there, or equal and not before it. -/
theorem first_spec (d : Fin 1024 → EReal) (k : Fin 1024) : d (first d) < d k ∨ d (first d) = d k ∧ first d ≤ k :=
  (exists_first d).choose_spec k

theorem first_le (d : Fin 1024 → EReal) (k : Fin 1024) : d (first d) ≤ d k :=
  (first_spec d k).elim le_of_lt fun h => h.1.le

/-- The minimum of the values is the value at the first index of the least. -/
theorem fold_min_eq (d : Fin 1024 → EReal) : Finset.univ.fold min ⊤ d = d (first d) :=
  le_antisymm (Finset.fold_min_le _ |>.2 (.inr ⟨first d, Finset.mem_univ _, le_rfl⟩))
    (Finset.le_fold_min _ |>.2 ⟨le_top, fun k _ => first_le d k⟩)

/-- The minimum over "`k` where the value is the least, 1024 elsewhere" is that index. -/
theorem fold_index_eq (d : Fin 1024 → EReal) (c : EReal) (hc : c = ((1024 : ℝ) : EReal)) :
    Finset.univ.fold min ⊤ (fun k : Fin 1024 => if d k = d (first d) then (((k : ℕ) : ℝ) : EReal) else c)
      = (((first d : ℕ) : ℝ) : EReal) := by
  refine le_antisymm (Finset.fold_min_le _ |>.2 (.inr ⟨first d, Finset.mem_univ _, by simp⟩))
    (Finset.le_fold_min _ |>.2 ⟨le_top, fun k _ => ?_⟩)
  split
  · rename_i h
    rcases first_spec d k with h' | ⟨_, h'⟩
    · exact absurd h h'.ne'
    · exact EReal.coe_le_coe_iff.2 (Nat.cast_le.2 h')
  · rw [hc, EReal.coe_le_coe_iff]
    exact_mod_cast (first d).isLt.le

/-- The order the pairs are compared in: the value, then the index read as a signed number. -/
def key (p : EReal × BitVec 32) : EReal ×ₗ ℤ := toLex (p.1, p.2.toInt)

theorem key_inj {p q : EReal × BitVec 32} (h : key p = key q) : p = q := by
  exact Prod.ext (congrArg (fun z => (ofLex z).1) h) (BitVec.eq_of_toInt_eq (congrArg (fun z => (ofLex z).2) h))

/-- The reference's reducer keeps the smaller of two pairs. -/
theorem reducer_eq (a b : EReal × BitVec 32) :
    Cert.ReferenceIdeal.reducer_argmin_f32_i32 (F := Ideal) a b = if key a < key b then a else b := by
  obtain ⟨x, i⟩ := a
  obtain ⟨y, j⟩ := b
  have hk : key (x, i) < key (y, j) ↔ x < y ∨ x = y ∧ i.toInt < j.toInt := Prod.Lex.lt_iff
  simp only [Cert.ReferenceIdeal.reducer_argmin_f32_i32, hk, Ideal.cmpf_def, Ideal.cmp, IntOp.ori, IntOp.andi, IntOp.cmpi,
    Scalar.select, BitVec.slt]
  by_cases h1 : x < y
  · simp [h1, h1.ne]
  · by_cases h2 : x = y
    · by_cases h3 : i.toInt < j.toInt <;> simp [h2, h3]
    · simp [h1, h2]

/-- A fold keeping the smaller of two pairs ends at one of the pairs it met, and no pair it met is smaller. -/
theorem foldl_least (f : EReal × BitVec 32 → EReal × BitVec 32 → EReal × BitVec 32)
    (hf : ∀ a b, f a b = if key a < key b then a else b) (l : List (EReal × BitVec 32)) (z : EReal × BitVec 32) :
    l.foldl f z ∈ z :: l ∧ ∀ p ∈ z :: l, key (l.foldl f z) ≤ key p := by
  induction l generalizing z with
  | nil => simp
  | cons p l ih =>
    obtain ⟨hm, hle⟩ := ih (f z p)
    have hz : f z p = z ∨ f z p = p := by rw [hf]; split <;> simp
    have h1 : key (f z p) ≤ key z := by rw [hf]; split <;> [exact le_rfl; exact not_lt.1 ‹_›]
    have h2 : key (f z p) ≤ key p := by rw [hf]; split <;> [exact le_of_lt ‹_›; exact le_rfl]
    rw [List.foldl_cons]
    have h0 := hle _ List.mem_cons_self
    refine ⟨?_, fun q hq => ?_⟩
    · rcases List.mem_cons.1 hm with h | h
      · rw [h]; rcases hz with h | h <;> rw [h] <;> simp
      · simp [h]
    · rcases List.mem_cons.1 hq with rfl | hq
      · exact h0.trans h1
      · rcases List.mem_cons.1 hq with rfl | hq
        · exact h0.trans h2
        · exact hle q (List.mem_cons_of_mem _ hq)

/-- Over a list of exactly the pairs (value at `k`, `k`), begun at an infinite value and the index 0, the fold ends at the
    first index of the least value. -/
theorem foldl_first (f : EReal × BitVec 32 → EReal × BitVec 32 → EReal × BitVec 32)
    (hf : ∀ a b, f a b = if key a < key b then a else b) (d : Fin 1024 → EReal) (l : List (EReal × BitVec 32))
    (hl : ∀ p, p ∈ l ↔ ∃ k : Fin 1024, p = (d k, BitVec.ofNat 32 k)) :
    l.foldl f (⊤, 0#32) = (d (first d), BitVec.ofNat 32 (first d)) := by
  obtain ⟨hm, hle⟩ := foldl_least f hf l (⊤, 0#32)
  have hi : ∀ k : Fin 1024, (BitVec.ofNat 32 k).toInt = (k : ℤ) := fun k => by
    rw [BitVec.toInt_ofNat']; exact Int.bmod_eq_of_le (by omega) (by omega)
  refine key_inj (le_antisymm (hle _ (List.mem_cons_of_mem _ ((hl _).2 ⟨_, rfl⟩))) ?_)
  have hlex : ∀ k : Fin 1024, key (d (first d), BitVec.ofNat 32 (first d)) ≤ key (d k, BitVec.ofNat 32 k) := fun k => by
    refine Prod.Lex.le_iff.2 ((first_spec d k).imp id fun h => ⟨h.1, ?_⟩)
    show (BitVec.ofNat 32 (first d)).toInt ≤ (BitVec.ofNat 32 k).toInt
    rw [hi, hi]; exact_mod_cast h.2
  rcases List.mem_cons.1 hm with h | h
  · rw [h]
    refine (hlex 0).trans (Prod.Lex.le_iff.2 ?_)
    rcases (le_top : d 0 ≤ ⊤).lt_or_eq with h | h
    · exact .inl h
    · exact .inr ⟨h, by simp [key]⟩
  · obtain ⟨k, hk⟩ := (hl _).1 h
    rw [hk]; exact hlex k

end Cert.Proof.Nearest
-- ==== Proof.Numbers.lean ====
/-
  The two programs' number conversions at the exact values: a number below 1024 made a float and back, the two constants the
  kernel's minima start at or fall back on, and the entry of a row of zeros and a one, as each program makes it.
-/
module

public import Idealize.ShloMosaic.Lib.Pointwise

@[expose] public section

noncomputable section

namespace Cert.Proof.Numbers

open Idealize.ShloMosaic

/-- The word both programs start a minimum at is infinity. -/
theorem word_inf : Ideal.ofBits .f32 0x7F800000#32 = ⊤ := by simp [Ideal.ofBits, Ideal.ieee]

/-- The word the kernel puts where the distance is not the least is 1024. -/
theorem word_1024 : Ideal.ofBits .f32 0x44800000#32 = ((1024 : ℝ) : EReal) := by
  simp [Ideal.ofBits, Ideal.ieee, -EReal.coe_mul]; norm_num

/-- A number below 1024 keeps its value as a signed word. -/
theorem toInt_small (k : Fin 1024) : (BitVec.ofNat 32 k).toInt = ((k : ℕ) : ℤ) := by
  rw [BitVec.toInt_ofNat']; exact Int.bmod_eq_of_le (by omega) (by omega)

/-- Its word made a float is the number itself. -/
theorem sitofp_small (k : Fin 1024) :
    FloatOps.sitofp (F := Ideal) .f32 (BitVec.ofNat 32 k) = (((k : ℕ) : ℝ) : EReal) := by
  show (((BitVec.ofNat 32 k).toInt : ℝ) : EReal) = _
  rw [toInt_small]; norm_cast

/-- The number made a word again is its word. -/
theorem fptosi_small (k : Fin 1024) :
    FloatOps.fptosi (F := Ideal) (φ := .f32) 32 (((k : ℕ) : ℝ) : EReal) = BitVec.ofNat 32 k := by
  have h0 : (0 : ℝ) ≤ ((k : ℕ) : ℝ) := Nat.cast_nonneg _
  have hk : ((k : ℕ) : ℤ) < 1024 := by omega
  show BitVec.ofInt 32 (Ideal.toIntClamped _ _ _) = _
  rw [Ideal.toIntClamped_coe, if_pos h0, Int.floor_natCast, min_eq_right (by norm_num; omega), max_eq_right (by norm_num)]
  rfl

/-- The kernel's entry of the row of zeros and a one: it compares the floats. -/
theorem hot_floats (k n : Fin 1024) :
    FloatOps.sitofp (F := Ideal) .f32 (BitVec.setWidth 32
        (BitVec.ofBool (decide (FloatOps.sitofp (F := Ideal) .f32 (BitVec.ofNat 32 k) = (((n : ℕ) : ℝ) : EReal)))))
      = if k = n then (1 : EReal) else 0 := by
  rw [sitofp_small]
  have h : ((((k : ℕ) : ℝ) : EReal) = (((n : ℕ) : ℝ) : EReal)) ↔ k = n := by
    rw [EReal.coe_eq_coe_iff, Nat.cast_inj, Fin.ext_iff]
  simp only [h]
  by_cases hkn : k = n
  · rw [if_pos hkn, decide_eq_true hkn]
    show (((BitVec.setWidth 32 (BitVec.ofBool true)).toInt : ℝ) : EReal) = 1
    rw [show (BitVec.setWidth 32 (BitVec.ofBool true)).toInt = 1 by decide]; norm_num
  · rw [if_neg hkn, decide_eq_false hkn]
    show (((BitVec.setWidth 32 (BitVec.ofBool false)).toInt : ℝ) : EReal) = 0
    rw [show (BitVec.setWidth 32 (BitVec.ofBool false)).toInt = 0 by decide]; norm_num

/-- The reference's entry: it compares the words. -/
theorem hot_words (k n : Fin 1024) :
    FloatOps.uitofp (F := Ideal) .f32 (IntOp.cmpi .eq (BitVec.ofNat 32 n) (BitVec.ofNat 32 k))
      = if k = n then (1 : EReal) else 0 := by
  have h : (BitVec.ofNat 32 n = BitVec.ofNat 32 k) ↔ k = n := by
    rw [← BitVec.toInt_inj, toInt_small, toInt_small, Fin.ext_iff]; omega
  show (((IntOp.cmpi .eq (BitVec.ofNat 32 n) (BitVec.ofNat 32 k)).toNat : ℝ) : EReal) = _
  by_cases hkn : k = n
  · rw [if_pos hkn, h.2 hkn]; simp [IntOp.cmpi]
  · rw [if_neg hkn]; simp [IntOp.cmpi, mt h.1 hkn]

end Cert.Proof.Numbers
-- ==== Proof.RefValue.lean ====
/-
  What the reference computes of each vector, at the exact values: its distances to the codes, the first index of the least, and
  the code selected by a row of zeros and a one.
-/
module

public import proofs.«01_k».proof.Proof.Ref
public import proofs.«01_k».proof.Proof.Nearest
public import proofs.«01_k».proof.Proof.Numbers

@[expose] public section

set_option maxRecDepth 16384

noncomputable section

namespace Cert.Proof

open Idealize.ShloMosaic

/-- The squared distance from a vector to code `k`, as both programs associate it: (squares of the vector − 2·vector·code) +
    squares of the code. -/
def gap (v : Fin 32 → EReal) (cb : Fin 1024 → Fin 32 → EReal) (k : Fin 1024) : EReal :=
  ∑ l, v l * v l - Ideal.ofBits .f32 0x40000000#32 * ∑ l, v l * cb k l + ∑ l, cb k l * cb k l

/-- The first code at the least distance. -/
def near (v : Fin 32 → EReal) (cb : Fin 1024 → Fin 32 → EReal) : Fin 1024 := Nearest.first (gap v cb)

/-- The code a row of zeros with a one at `n` selects. -/
def pick (cb : Fin 1024 → Fin 32 → EReal) (n : Fin 1024) (l : Fin 32) : EReal :=
  ∑ k, (if k = n then (1 : EReal) else 0) * cb k l

namespace Ref

open Cert.ReferenceIdeal Cert.ReferenceIdeal.Gen

/-- A codebook as a function of code and component. -/
def codes (cb : FVec Ideal S1024x32 .f32) : Fin 1024 → Fin 32 → EReal := fun k l => cb (ix2 k l)

/-- The place of vector `r` of batch `b` among the rows. -/
def flat (b : Fin 64) (r : Fin 1024) : Fin 65536 := ⟨b * 1024 + r, by omega⟩

/-- The row there is that vector. -/
theorem rows_flat (x : FVec Ideal S64x1024x32 .f32) (b : Fin 64) (r : Fin 1024) (l : Fin 32) :
    rows (F := Ideal) x (ix2 (flat b r) l) = x (ix3 b r l) := by
  have h : ∀ y : FVec Ideal S65536x32 .f32, shapeCast S64x1024x32 y shapeCasts_S65536x32_S64x1024x32 (ix3 b r l) = y (ix2 (flat b r) l) :=
    fun y => by pointwise [flat]
  rw [← h (rows (F := Ideal) x)]
  pointwise [rows]

/-- A row's distances. -/
theorem dist_apply (y : FVec Ideal S65536x32 .f32) (cb : FVec Ideal S1024x32 .f32) (p : Fin 65536) (k : Fin 1024) :
    dist (F := Ideal) y cb (ix2 p k) = gap (fun l => y (ix2 p l)) (codes cb) k := by
  pointwise [dist, distG, sumRow, sumCol, mulXC, gap, codes]

/-- The (value, index) pairs of row `p`. -/
theorem mem_fiber (x : FVec Ideal S65536x1024 .f32) (p : Fin 65536) (q : EReal × BitVec 32) :
    q ∈ Host.argReduceFiber x (iotaInDim S65536x1024 32 1) reducesTo_S65536x1024_S65536_d1 (ix1 p)
      ↔ ∃ k : Fin 1024, q = (x (ix2 p k), BitVec.ofNat 32 k) := by
  rw [Host.argReduceFiber, List.mem_map]
  constructor
  · rintro ⟨n, hn, rfl⟩
    have hd := of_decide_eq_true (List.mem_filter.1 hn).2
    refine ⟨(S65536x1024.rowMajor.symm n) 1, ?_⟩
    have hi : S65536x1024.rowMajor.symm n = ix2 p ((S65536x1024.rowMajor.symm n) 1) := by
      refine funext fun a => ?_
      match a with
      | 0 => exact Fin.ext ((Shape.ReducesTo.drop_apply_val_of_eq reducesTo_S65536x1024_S65536_d1 _ 0 0).symm.trans
          (congrArg (fun j => (j 0 : ℕ)) hd))
      | 1 => rfl
    rw [hi]; rfl
  · rintro ⟨k, rfl⟩
    refine ⟨S65536x1024.rowMajor (ix2 p k), List.mem_filter.2 ⟨List.mem_finRange _, decide_eq_true ?_⟩, ?_⟩
    · rw [Equiv.symm_apply_apply]
      refine funext fun a => ?_
      match a with
      | 0 => exact Fin.ext (Shape.ReducesTo.drop_apply_val_of_eq reducesTo_S65536x1024_S65536_d1 _ 0 0)
    · rw [Equiv.symm_apply_apply]; rfl

/-- The second parts of a family of pairs. -/
def seconds {ι α β : Type} (f : ι → α × β) : ι → β := fun j => (f j).2

/-- The second part where the pair is known. -/
theorem seconds_of {ι α β : Type} {f : ι → α × β} {j : ι} {p : α × β} (h : f j = p) : seconds f j = p.2 := congrArg Prod.snd h

/-- The reference's indices are the second parts of its reduction. -/
theorem argMin2_eq (x : FVec Ideal S65536x1024 .f32) (y : IVec S65536x1024 32) (u : FVec Ideal S_ .f32) (v : IVec S_ 32) :
    argMin2 (F := Ideal) x y u v
      = seconds (Host.argReduce (reducer_argmin_f32_i32 (F := Ideal)) x y u v reducesTo_S65536x1024_S65536_d1 h_S_) := rfl

/-- The reference's index of a row is the fold of its reducer over the row's pairs. -/
theorem argMin2_fold (x : FVec Ideal S65536x1024 .f32) (y : IVec S65536x1024 32) (u : FVec Ideal S_ .f32) (v : IVec S_ 32)
    (j : S65536.Idx) :
    argMin2 (F := Ideal) x y u v j
      = ((Host.argReduceFiber x y reducesTo_S65536x1024_S65536_d1 j).foldl (reducer_argmin_f32_i32 (F := Ideal))
          (u (Shape.Idx.first h_S_), v (Shape.Idx.first h_S_))).2 := by
  rw [argMin2_eq, Ideal.argReduce_eq_reduce2]
  exact seconds_of (Host.reduce2_eq_foldl_fiber _ x y u v _ _ j)

/-- It is the first index of the least value. -/
theorem argMin2_apply (x : FVec Ideal S65536x1024 .f32) (y : IVec S65536x1024 32) (u : FVec Ideal S_ .f32) (v : IVec S_ 32)
    (hy : y = iotaInDim S65536x1024 32 1) (hu : ∀ i, u i = ⊤) (hv : ∀ i, v i = 0#32) (p : Fin 65536) :
    argMin2 (F := Ideal) x y u v (ix1 p) = BitVec.ofNat 32 (Nearest.first fun k => x (ix2 p k)) := by
  rw [argMin2_fold, hu, hv]
  subst hy
  rw [Nearest.foldl_first (reducer_argmin_f32_i32 (F := Ideal)) Nearest.reducer_eq (fun k => x (ix2 p k)) _ (mem_fiber x p)]

/-- The index of the nearest code to vector `r` of batch `b`. -/
theorem idx_apply (x : FVec Ideal S64x1024x32 .f32) (cb : FVec Ideal S1024x32 .f32) (b : Fin 64) (r : Fin 1024) :
    idx (F := Ideal) x cb (ix1 (flat b r)) = BitVec.ofNat 32 (near (fun l => x (ix3 b r l)) (codes cb)) := by
  refine (argMin2_apply (dist (F := Ideal) (rows (F := Ideal) x) cb) _ _ _ rfl (fun _ => Numbers.word_inf) (fun _ => rfl)
    (flat b r)).trans ?_
  simp only [dist_apply, rows_flat]
  rfl

/-- The code selected for it. -/
theorem quant_apply (x : FVec Ideal S64x1024x32 .f32) (cb : FVec Ideal S1024x32 .f32) (b : Fin 64) (r : Fin 1024) (l : Fin 32) :
    quant (F := Ideal) x cb (ix2 (flat b r) l) = pick (codes cb) (near (fun l => x (ix3 b r l)) (codes cb)) l := by
  have h : ∀ (o : FVec Ideal S65536x1024 .f32) (p : Fin 65536),
      mulOC (F := Ideal) o cb (ix2 p l) = ∑ k : Fin 1024, o (ix2 p k) * cb (ix2 k l) := fun o p => by
    pointwise [mulOC]
  have h' : ∀ (n : IVec S65536 32) (p : Fin 65536) (k : Fin 1024), oneHot (F := Ideal) n (ix2 p k)
      = FloatOps.uitofp (F := Ideal) .f32 (IntOp.cmpi .eq (n (ix1 p)) (BitVec.ofNat 32 k)) := fun n p k => by
    pointwise [oneHot]
  refine (h (oneHot (F := Ideal) (idx (F := Ideal) x cb)) (flat b r)).trans ?_
  simp only [h', idx_apply, Numbers.hot_words]
  rfl

/-- The first result at vector `r` of batch `b`. -/
theorem outST_apply (x : FVec Ideal S64x1024x32 .f32) (cb : FVec Ideal S1024x32 .f32) (b : Fin 64) (r : Fin 1024) (l : Fin 32) :
    outST (F := Ideal) x cb (ix3 b r l)
      = x (ix3 b r l) + (pick (codes cb) (near (fun l => x (ix3 b r l)) (codes cb)) l - x (ix3 b r l)) := by
  have h : ∀ q : FVec Ideal S65536x32 .f32, stOf (F := Ideal) x q (ix3 b r l)
      = x (ix3 b r l) + (q (ix2 (flat b r) l) - x (ix3 b r l)) := fun q => by
    pointwise [stOf, flat]
  rw [outST, h, quant_apply]

/-- The second result there. -/
theorem outLoss_apply (x : FVec Ideal S64x1024x32 .f32) (cb : FVec Ideal S1024x32 .f32) (b : Fin 64) (r : Fin 1024) (l : Fin 32) :
    outLoss (F := Ideal) x cb (ix3 b r l)
      = (fun e : EReal => e * e + Ideal.ofBits .f32 0x3E800000#32 * (e * e))
          (pick (codes cb) (near (fun l => x (ix3 b r l)) (codes cb)) l - x (ix3 b r l)) := by
  have h : ∀ q : FVec Ideal S65536x32 .f32, lossOf (F := Ideal) (rows (F := Ideal) x) q (ix3 b r l)
      = (fun e : EReal => e * e + Ideal.ofBits .f32 0x3E800000#32 * (e * e)) (q (ix2 (flat b r) l) - x (ix3 b r l)) := fun q => by
    pointwise [lossOf, rows, flat]
  rw [outLoss, h, quant_apply]

/-- The third result there. -/
theorem outIdx_apply (x : FVec Ideal S64x1024x32 .f32) (cb : FVec Ideal S1024x32 .f32) (z : Fin 1) (b : Fin 64) (r : Fin 1024) :
    outIdx (F := Ideal) x cb (ix3 z b r) = BitVec.ofNat 32 (near (fun l => x (ix3 b r l)) (codes cb)) := by
  have h : ∀ n : IVec S65536 32, idxOf (F := Ideal) n (ix3 z b r) = n (ix1 (flat b r)) := fun n => by
    pointwise [idxOf, flat]
  rw [outIdx, h, idx_apply]

end Ref

end Cert.Proof
-- ==== Proof.KernelValue.lean ====
/-
  What the ideal kernel computes of each vector, at the exact values: the first index of the least distance as a float, the code
  selected by comparing floats, and the three results at each vector.
-/
module

public import proofs.«01_k».proof.Proof.Arrays
public import proofs.«01_k».proof.Proof.RefValue

@[expose] public section

set_option maxRecDepth 16384

noncomputable section

namespace Cert.Proof.K

open Cert.KernelIdeal Cert.KernelIdeal.Gen
open Idealize.ShloMosaic
open Cert.Proof.Ref (codes)

/-- The squares of the codes the first grid point keeps. -/
theorem norms_apply (cb : Vec Ideal S1024x32 .f32) (k : Fin 1024) :
    k0_pay4 cb (ix2 0 k) = ∑ l, codes cb k l * codes cb k l := by
  pointwise [k0_pay4, codes]

/-- The first index of the least distance, as a float. -/
theorem pay6_apply (v0 : Vec Ideal S1x32x1024 .f32) (cb : Vec Ideal S1024x32 .f32) (r : Fin 1024) :
    k0_pay6 v0 cb (k0_pay4 cb) (ix1 r) = (((near (fun l => v0 (ix3 0 l r)) (codes cb) : ℕ) : ℝ) : EReal) := by
  have h : k0_pay6 v0 cb (k0_pay4 cb) (ix1 r)
      = Finset.univ.fold min (Ideal.ofBits .f32 0x7F800000#32) (fun k : Fin 1024 =>
          if gap (fun l => v0 (ix3 0 l r)) (codes cb) k
              = Finset.univ.fold min (Ideal.ofBits .f32 0x7F800000#32) (gap (fun l => v0 (ix3 0 l r)) (codes cb))
          then FloatOps.sitofp (F := Ideal) .f32 (BitVec.ofNat 32 k) else Ideal.ofBits .f32 0x44800000#32) := by
    have hg : gap (fun l => v0 (ix3 0 l r)) (codes cb) = fun k => ∑ l, v0 (ix3 0 l r) * v0 (ix3 0 l r)
        - Ideal.ofBits .f32 0x40000000#32 * ∑ l, v0 (ix3 0 l r) * cb (ix2 k l) + k0_pay4 cb (ix2 0 k) := by
      funext k; rw [norms_apply]; rfl
    rw [hg]
    pointwise [k0_pay6, k0_pay3, k0_pay5]
  rw [h]
  simp only [Numbers.word_inf, Nearest.fold_min_eq (gap (fun l => v0 (ix3 0 l r)) (codes cb)), Numbers.sitofp_small]
  exact Nearest.fold_index_eq _ _ Numbers.word_1024

/-- The index as a word. -/
theorem pay7_apply (v0 : Vec Ideal S1x32x1024 .f32) (cb : Vec Ideal S1024x32 .f32) (r : Fin 1024) :
    k0_pay7 v0 cb (k0_pay4 cb) (ix3 0 0 r) = BitVec.ofNat 32 (near (fun l => v0 (ix3 0 l r)) (codes cb)) := by
  have h : k0_pay7 v0 cb (k0_pay4 cb) (ix3 0 0 r)
      = FloatOps.fptosi (F := Ideal) 32 (k0_pay6 v0 cb (k0_pay4 cb) (ix1 r)) := by
    pointwise [k0_pay7]
  rw [h, pay6_apply, Numbers.fptosi_small]

/-- The selected code minus the vector. -/
theorem pay8_apply (v0 : Vec Ideal S1x32x1024 .f32) (cb : Vec Ideal S1024x32 .f32) (r : Fin 1024) (l : Fin 32) :
    k0_pay8 v0 cb (k0_pay4 cb) (ix2 r l)
      = pick (codes cb) (near (fun l => v0 (ix3 0 l r)) (codes cb)) l - v0 (ix3 0 l r) := by
  have h : k0_pay8 v0 cb (k0_pay4 cb) (ix2 r l)
      = ∑ k : Fin 1024, FloatOps.sitofp (F := Ideal) .f32 (BitVec.setWidth 32 (BitVec.ofBool (decide
          (FloatOps.sitofp (F := Ideal) .f32 (BitVec.ofNat 32 k) = k0_pay6 v0 cb (k0_pay4 cb) (ix1 r))))) * cb (ix2 k l)
        - v0 (ix3 0 l r) := by
    pointwise [k0_pay8, k0_pay3, k0_pay5]
  rw [h]
  simp only [pay6_apply, Numbers.hot_floats]
  rfl

/-- The first block output at component `l` of vector `r`. -/
theorem outX_apply (v0 : Vec Ideal S1x32x1024 .f32) (cb : Vec Ideal S1024x32 .f32) (r : Fin 1024) (l : Fin 32) :
    outX v0 cb (k0_pay4 cb) (ix3 0 l r)
      = v0 (ix3 0 l r) + (pick (codes cb) (near (fun l => v0 (ix3 0 l r)) (codes cb)) l - v0 (ix3 0 l r)) := by
  have h : ∀ e : FVec Ideal S1024x32 .f32, k0_pay2 (k0_pay3 v0) e (ix3 0 l r) = v0 (ix3 0 l r) + e (ix2 r l) := fun e => by
    pointwise [k0_pay2, k0_pay3]
  rw [outX, h, pay8_apply]

/-- The second. -/
theorem outL_apply (v0 : Vec Ideal S1x32x1024 .f32) (cb : Vec Ideal S1024x32 .f32) (r : Fin 1024) (l : Fin 32) :
    outL v0 cb (k0_pay4 cb) (ix3 0 l r)
      = (fun e : EReal => e * e + Ideal.ofBits .f32 0x3E800000#32 * (e * e))
          (pick (codes cb) (near (fun l => v0 (ix3 0 l r)) (codes cb)) l - v0 (ix3 0 l r)) := by
  have h : ∀ e : FVec Ideal S1024x32 .f32, k0_pay1 e (ix3 0 l r)
      = (fun e : EReal => e * e + Ideal.ofBits .f32 0x3E800000#32 * (e * e)) (e (ix2 r l)) := fun e => by
    pointwise [k0_pay1]
  rw [outL, h, pay8_apply]

end Cert.Proof.K
-- ==== Proof.Equation.lean ====
/-
  The equation: at the exact values the ideal kernel's three computed results are the reference's, at every index.
-/
module

public import proofs.«01_k».proof.Proof.KernelValue

@[expose] public section

set_option maxRecDepth 16384

noncomputable section

namespace Cert.Proof

open Cert.KernelIdeal Cert.KernelIdeal.Gen
open Idealize.ShloMosaic

/-- The first result: vectors plus (selected code minus vector). -/
theorem kX_eq (x : Vec Ideal S64x1024x32 .f32) (cb : Vec Ideal S1024x32 .f32) : K.kX x cb = Ref.outST (F := Ideal) x cb := by
  funext j
  rw [show j = ix3 (j 0) (j 1) (j 2) from K.idx3_ext rfl rfl rfl]
  exact (K.outX_apply (K.blockOf x (j 0)) cb (j 1) (j 2)).trans (Ref.outST_apply x cb (j 0) (j 1) (j 2)).symm

/-- The second: the squared difference plus a quarter of it. -/
theorem kL_eq (x : Vec Ideal S64x1024x32 .f32) (cb : Vec Ideal S1024x32 .f32) : K.kL x cb = Ref.outLoss (F := Ideal) x cb := by
  funext j
  rw [show j = ix3 (j 0) (j 1) (j 2) from K.idx3_ext rfl rfl rfl]
  exact (K.outL_apply (K.blockOf x (j 0)) cb (j 1) (j 2)).trans (Ref.outLoss_apply x cb (j 0) (j 1) (j 2)).symm

/-- The third: the indices of the nearest codes. -/
theorem kN_eq (x : Vec Ideal S64x1024x32 .f32) (cb : Vec Ideal S1024x32 .f32) : K.kN x cb = Ref.outIdx (F := Ideal) x cb := by
  funext j
  rw [show j = ix3 (j 0) (j 1) (j 2) from K.idx3_ext rfl rfl rfl]
  exact (K.pay7_apply (K.blockOf x (j 1)) cb (j 2)).trans (Ref.outIdx_apply x cb (j 0) (j 1) (j 2)).symm

end Cert.Proof
-- ==== Proof.lean ====
/-
  The certificate's claim: the kernel and its ideal reading run and leave their arguments and semaphores alone, so does the
  reference, and the ideal kernel's five results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frame
public import proofs.«01_k».proof.Proof.Equation
public import Idealize.ShloMosaic.Adequacy
public import Idealize.ShloMosaic.Init

@[expose] public section

noncomputable section

namespace Cert.Proof

open Idealize.ShloMosaic Idealize.SL.Sem

/-- The ideal kernel runs, its arguments and semaphores unchanged. -/
theorem frame_ideal : Cert.quiescent_KernelIdeal (hKernelIdeal := Cert.KernelIdeal.Gen.facts) := fun m g _ =>
  (θ_run _ _ _).mono (fun _ h => ⟨fun c => (h.1 c).2.2.2.2, h.2⟩) (K.run_value (F := Ideal) m g)

/-- So does the reference. -/
theorem frame_reference : Cert.quiescent_ReferenceIdeal (hReferenceIdeal := Cert.ReferenceIdeal.Gen.facts) := fun m g _ =>
  (θ_run _ _ _).mono (fun _ h => ⟨fun c => (h.1 c).2.2.2.2, h.2⟩) (Ref.run_main (F := Ideal) m g)

/-- From memories that agree on the arguments the ideal kernel and the reference end with equal results. -/
theorem equal_results : Cert.algebraic_KernelIdeal_ReferenceIdeal (hKernelIdeal := Cert.KernelIdeal.Gen.facts)
    (hReferenceIdeal := Cert.ReferenceIdeal.Gen.facts) := fun m g m' g' _ hargs => by
  refine ⟨_, _, _, _, _,
    (θ_run _ _ _).mono (fun _ h c => ⟨(h.1 c).1, (h.1 c).2.1, (h.1 c).2.2.1, (h.1 c).2.2.2.1, (h.1 c).2.2.2.2.2.2.2,
      (h.1 c).2.2.2.2⟩) (K.run_value (F := Ideal) m g),
    (θ_run _ _ _).mono (fun _ h c => ?_) (Ref.run_main (F := Ideal) m' g')⟩
  obtain ⟨h0, h1, h2, h3, ha0, ha1, ha2, ha3⟩ := h.1 c
  obtain ⟨e0, e1, e2, e3⟩ := hargs c
  rw [e0, e2] at h0 h1 h2
  rw [e2] at h3
  exact ⟨h0.trans (kX_eq _ _).symm, h1.trans (kL_eq _ _).symm, h2.trans (kN_eq _ _).symm, h3, ha3.trans e3, ha0, ha1, ha2, ha3⟩

theorem claim : Cert.Claim :=
  ⟨Cert.Kernel.Gen.facts, Cert.KernelIdeal.Gen.facts, Cert.ReferenceIdeal.Gen.facts,
    fun m g _ => P.frame (F := Bits) m g, frame_ideal, frame_reference, trivial, equal_results⟩

end Cert.Proof

end
